-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_each_sequence_once [hPre_each_sequence_once : Cert.Pre_each_sequence_once.Facts] (m : (ℓ : Loc Cert.KernelIdeal.nD Cert.KernelIdeal.τ Cert.KernelIdeal.sig) → Buf (Elt Ideal) ℓ) : Prop :=
  ∀ c : Dev Cert.KernelIdeal.nD,
    (Cert.Pre_each_sequence_once.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_each_sequence_once [hPre_each_sequence_once : Cert.Pre_each_sequence_once.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_each_sequence_once.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_each_sequence_once [hKernelIdeal : Cert.KernelIdeal.Facts] [hPre_each_sequence_once : Cert.Pre_each_sequence_once.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_each_sequence_once m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_each_sequence_once [hReferenceIdeal : Cert.ReferenceIdeal.Facts] [hPre_each_sequence_once : Cert.Pre_each_sequence_once.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_each_sequence_once m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_each_sequence_once [hKernelIdeal : Cert.KernelIdeal.Facts] [hReferenceIdeal : Cert.ReferenceIdeal.Facts] [hPre_each_sequence_once : Cert.Pre_each_sequence_once.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_each_sequence_once m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_each_sequence_once : Cert.Pre_each_sequence_once.Facts),
    quiescent_Kernel (hKernel := hKernel)
    ∧ quiescent_KernelIdeal (hKernelIdeal := hKernelIdeal)
    ∧ quiescent_KernelIdeal_pre_each_sequence_once (hKernelIdeal := hKernelIdeal) (hPre_each_sequence_once := hPre_each_sequence_once)
    ∧ quiescent_ReferenceIdeal (hReferenceIdeal := hReferenceIdeal)
    ∧ quiescent_ReferenceIdeal_pre_each_sequence_once (hReferenceIdeal := hReferenceIdeal) (hPre_each_sequence_once := hPre_each_sequence_once)
    ∧ preserves_Kernel_KernelIdeal
    ∧ algebraic_KernelIdeal_ReferenceIdeal_pre_each_sequence_once (hKernelIdeal := hKernelIdeal) (hReferenceIdeal := hReferenceIdeal) (hPre_each_sequence_once := hPre_each_sequence_once)
-- ==== Pre_each_sequence_once.lean ====
abbrev S16x2048x1024 : Shape := ⟨3, ![16, 2048, 1024]⟩
abbrev S8x2 : Shape := ⟨2, ![8, 2]⟩
abbrev S8x64x1024 : Shape := ⟨3, ![8, 64, 1024]⟩
abbrev S8x64 : Shape := ⟨2, ![8, 64]⟩
abbrev S16 : Shape := ⟨1, ![16]⟩
abbrev S_ : Shape := ⟨0, ![]⟩
abbrev S16x1 : Shape := ⟨2, ![16, 1]⟩
abbrev S1x16 : Shape := ⟨2, ![1, 16]⟩
abbrev S16x16 : Shape := ⟨2, ![16, 16]⟩

class Facts : Prop where
  shapeCasts_S8x2_S16 : S8x2.ShapeCasts S16
  bcast_S_S16 : S_.BroadcastsInDim S16 (![] : Fin 0 → Fin S16.rank)
  bcast_S16_S16x1_0 : S16.BroadcastsInDim S16x1 (![0] : Fin 1 → Fin S16x1.rank)
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  reducesTo_S16_S_d0 : S16.ReducesTo [0] S_
  h_S_ : 0 < S_.numel
  reducesTo_S16x16_S_d0_1 : S16x16.ReducesTo [0, 1] S_

variable [Facts]

def fn_part1 {F : FTy → Type} [FloatOps F] (main_v18 : IVec S_ 1) (main_v19 : IVec S_ 1) : IVec S_ 1 :=
  let main_v20 : IVec S_ 1 := andi main_v18 main_v19
  main_v20

def fn {F : FTy → Type} [FloatOps F] (main_arg0 : FVec F S16x2048x1024 .f32) (main_arg1 : IVec S8x2 32) (main_arg2 : FVec F S8x64x1024 .f32) (main_arg3 : FVec F S8x64 .f32) : IVec S_ 1 :=
  let main_v0 : IVec S16 32 := shapeCast S16 main_arg1 shapeCasts_S8x2_S16
  let main_v1 : IVec S16 32 := iotaInDim S16 32 0
  let main_c : IVec S_ 32 := constantI S_ 32 0#32
  let main_v2 : IVec S16 32 := broadcastInDim S16 ![] bcast_S_S16 main_c
  let main_v3 : IVec S16 1 := cmpi .sge main_v0 main_v2
  let main_c_0 : IVec S_ 32 := constantI S_ 32 16#32
  let main_v4 : IVec S16 32 := broadcastInDim S16 ![] bcast_S_S16 main_c_0
  let main_v5 : IVec S16 1 := cmpi .slt main_v0 main_v4
  let main_v6 : IVec S16 1 := andi main_v3 main_v5
  let main_v7 : IVec S16x1 32 := broadcastInDim S16x1 ![0] bcast_S16_S16x1_0 main_v0
  let main_v8 : IVec S1x16 32 := broadcastInDim S1x16 ![1] bcast_S16_S1x16_1 main_v0
  let main_v9 : IVec S16x16 32 := broadcastInDim S16x16 ![0, 1] bcast_S16x1_S16x16_0_1 main_v7
  let main_v10 : IVec S16x16 32 := broadcastInDim S16x16 ![0, 1] bcast_S1x16_S16x16_0_1 main_v8
  let main_v11 : IVec S16x16 1 := cmpi .ne main_v9 main_v10
  let main_v12 : IVec S16x1 32 := broadcastInDim S16x1 ![0] bcast_S16_S16x1_0 main_v1
  let main_v13 : IVec S1x16 32 := broadcastInDim S1x16 ![1] bcast_S16_S1x16_1 main_v1
  let main_v14 : IVec S16x16 32 := broadcastInDim S16x16 ![0, 1] bcast_S16x1_S16x16_0_1 main_v12
  let main_v15 : IVec S16x16 32 := broadcastInDim S16x16 ![0, 1] bcast_S1x16_S16x16_0_1 main_v13
  let main_v16 : IVec S16x16 1 := cmpi .eq main_v14 main_v15
  let main_v17 : IVec S16x16 1 := ori main_v11 main_v16
  let main_c_1 : IVec S_ 1 := constantI S_ 1 1#1
  let main_v18 : IVec S_ 1 := (fun x v => Host.reduce IntOp.andi x v reducesTo_S16_S_d0 h_S_) main_v6 main_c_1
  let main_c_2 : IVec S_ 1 := constantI S_ 1 1#1
  let main_v19 : IVec S_ 1 := (fun x v => Host.reduce IntOp.andi x v reducesTo_S16x16_S_d0_1 h_S_) main_v17 main_c_2
  fn_part1 (F := F) main_v18 main_v19
-- ==== Kernel.lean ====
abbrev S16x2048x1024 : Shape := ⟨3, ![16, 2048, 1024]⟩
abbrev S8x2 : Shape := ⟨2, ![8, 2]⟩
abbrev S8x64x1024 : Shape := ⟨3, ![8, 64, 1024]⟩
abbrev S8x64 : Shape := ⟨2, ![8, 64]⟩
abbrev S_ : Shape := ⟨0, ![]⟩
abbrev S16 : Shape := ⟨1, ![16]⟩
abbrev S8 : Shape := ⟨1, ![8]⟩
abbrev S16x1 : Shape := ⟨2, ![16, 1]⟩
abbrev S8x1024x64 : Shape := ⟨3, ![8, 1024, 64]⟩
abbrev S16x64 : Shape := ⟨2, ![16, 64]⟩
abbrev S16x1x64 : Shape := ⟨3, ![16, 1, 64]⟩
abbrev S16x2048x512 : Shape := ⟨3, ![16, 2048, 512]⟩
abbrev S1x2048x1024 : Shape := ⟨3, ![1, 2048, 1024]⟩
abbrev S1x1024x64 : Shape := ⟨3, ![1, 1024, 64]⟩
abbrev S1 : Shape := ⟨1, ![1]⟩
abbrev S1x1x64 : Shape := ⟨3, ![1, 1, 64]⟩
abbrev S1x2048x512 : Shape := ⟨3, ![1, 2048, 512]⟩
abbrev S2048x1024 : Shape := ⟨2, ![2048, 1024]⟩
abbrev S1024x64 : Shape := ⟨2, ![1024, 64]⟩
abbrev S2048x64 : Shape := ⟨2, ![2048, 64]⟩
abbrev S1x64 : Shape := ⟨2, ![1, 64]⟩
abbrev S2048x512 : Shape := ⟨2, ![2048, 512]⟩

abbrev nBuf : Space → Nat
  | .hbm => 30
  | .vmem => 8
  | .smem => 1
  | _ => 0

abbrev bufTy : (tb : Table) → Fin (tcTables nBuf tb) → BufTy
  | .hbm, ⟨0, _⟩ => ⟨S16x2048x1024, .f32⟩
  | .hbm, ⟨1, _⟩ => ⟨S8x2, .i32⟩
  | .hbm, ⟨2, _⟩ => ⟨S8x64x1024, .f32⟩
  | .hbm, ⟨3, _⟩ => ⟨S8x64, .f32⟩
  | .hbm, ⟨4, _⟩ => ⟨S_, .i32⟩
  | .hbm, ⟨5, _⟩ => ⟨S16, .i32⟩
  | .hbm, ⟨6, _⟩ => ⟨S16, .i32⟩
  | .hbm, ⟨7, _⟩ => ⟨S8, .i32⟩
  | .hbm, ⟨8, _⟩ => ⟨S8x2, .i32⟩
  | .hbm, ⟨9, _⟩ => ⟨S16, .i32⟩
  | .hbm, ⟨10, _⟩ => ⟨S_, .i32⟩
  | .hbm, ⟨11, _⟩ => ⟨S16, .i32⟩
  | .hbm, ⟨12, _⟩ => ⟨S16, .i1⟩
  | .hbm, ⟨13, _⟩ => ⟨S_, .i32⟩
  | .hbm, ⟨14, _⟩ => ⟨S16, .i32⟩
  | .hbm, ⟨15, _⟩ => ⟨S16, .i32⟩
  | .hbm, ⟨16, _⟩ => ⟨S16, .i32⟩
  | .hbm, ⟨17, _⟩ => ⟨S16x1, .i32⟩
  | .hbm, ⟨18, _⟩ => ⟨S8x1024x64, .f32⟩
  | .hbm, ⟨19, _⟩ => ⟨S_, .i32⟩
  | .hbm, ⟨20, _⟩ => ⟨S16, .i32⟩
  | .hbm, ⟨21, _⟩ => ⟨S16, .i1⟩
  | .hbm, ⟨22, _⟩ => ⟨S_, .i32⟩
  | .hbm, ⟨23, _⟩ => ⟨S16, .i32⟩
  | .hbm, ⟨24, _⟩ => ⟨S16, .i32⟩
  | .hbm, ⟨25, _⟩ => ⟨S16, .i32⟩
  | .hbm, ⟨26, _⟩ => ⟨S16x1, .i32⟩
  | .hbm, ⟨27, _⟩ => ⟨S16x64, .f32⟩
  | .hbm, ⟨28, _⟩ => ⟨S16x1x64, .f32⟩
  | .hbm, ⟨29, _⟩ => ⟨S16x2048x512, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024x64, .f32⟩
  | .local _ .vmem, ⟨3, _⟩ => ⟨S1x1024x64, .f32⟩
  | .local _ .vmem, ⟨4, _⟩ => ⟨S1x1x64, .f32⟩
  | .local _ .vmem, ⟨5, _⟩ => ⟨S1x1x64, .f32⟩
  | .local _ .vmem, ⟨6, _⟩ => ⟨S1x2048x512, .f32⟩
  | .local _ .vmem, ⟨7, _⟩ => ⟨S1x2048x512, .f32⟩
  | .local _ .smem, ⟨0, _⟩ => ⟨S16, .i32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_0 : Ref sig .tc := ⟨.hbm, 10, rfl⟩
abbrev main_call0_v5 : Ref sig .tc := ⟨.hbm, 11, rfl⟩
abbrev main_call0_v6 : Ref sig .tc := ⟨.hbm, 12, rfl⟩
abbrev main_call0_c_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v12 : Ref sig .tc := ⟨.hbm, 18, rfl⟩
abbrev main_call0_c_2 : Ref sig .tc := ⟨.hbm, 19, rfl⟩
abbrev main_call0_v13 : Ref sig .tc := ⟨.hbm, 20, rfl⟩
abbrev main_call0_v14 : Ref sig .tc := ⟨.hbm, 21, rfl⟩
abbrev main_call0_c_3 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_v19 : Ref sig .tc := ⟨.hbm, 27, rfl⟩
abbrev main_call0_v20 : Ref sig .tc := ⟨.hbm, 28, rfl⟩
abbrev main_v0 : Ref sig .tc := ⟨.hbm, 29, rfl⟩
abbrev main_call0_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 1], ![false, false]⟩

abbrev pre0 : Pipeline.Prefetch sig := ⟨1, ![main_call0_v11.idx], fun | 0 => main_call0_v11.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x2048x1024 : Shape := ⟨3, ![16, 2048, 1024]⟩
abbrev S8x2 : Shape := ⟨2, ![8, 2]⟩
abbrev S8x64x1024 : Shape := ⟨3, ![8, 64, 1024]⟩
abbrev S8x64 : Shape := ⟨2, ![8, 64]⟩
abbrev S1x2 : Shape := ⟨2, ![1, 2]⟩
abbrev S2 : Shape := ⟨1, ![2]⟩
abbrev S_ : Shape := ⟨0, ![]⟩
abbrev S2x1 : Shape := ⟨2, ![2, 1]⟩
abbrev S1 : Shape := ⟨1, ![1]⟩
abbrev S1x1 : Shape := ⟨2, ![1, 1]⟩
abbrev S2x2048x1024 : Shape := ⟨3, ![2, 2048, 1024]⟩
abbrev S1x64x1024 : Shape := ⟨3, ![1, 64, 1024]⟩
abbrev S64x1024 : Shape := ⟨2, ![64, 1024]⟩
abbrev S2x2048x64 : Shape := ⟨3, ![2, 2048, 64]⟩
abbrev S1x64 : Shape := ⟨2, ![1, 64]⟩
abbrev S64 : Shape := ⟨1, ![64]⟩
abbrev S1x1x64 : Shape := ⟨3, ![1, 1, 64]⟩
abbrev S16x2048x64 : Shape := ⟨3, ![16, 2048, 64]⟩
abbrev S16x2048x512 : Shape := ⟨3, ![16, 2048, 512]⟩

abbrev nBuf : Space → Nat
  | .hbm => 357
  | .vmem => 0
  | .smem => 0
  | _ => 0

abbrev hbmTy0_0 (i : Nat) : BufTy := match i % 128 with
  | 0 => ⟨S16x2048x1024, .f32⟩
  | 1 => ⟨S8x2, .i32⟩
  | 2 => ⟨S8x64x1024, .f32⟩
  | 3 => ⟨S8x64, .f32⟩
  | 4 => ⟨S1x2, .i32⟩
  | 5 => ⟨S2, .i32⟩
  | 6 => ⟨S_, .i32⟩
  | 7 => ⟨S2, .i32⟩
  | 8 => ⟨S2, .i1⟩
  | 9 => ⟨S_, .i32⟩
  | 10 => ⟨S2, .i32⟩
  | 11 => ⟨S2, .i32⟩
  | 12 => ⟨S2, .i32⟩
  | 13 => ⟨S2x1, .i32⟩
  | 14 => ⟨S1, .i32⟩
  | 15 => ⟨S_, .i32⟩
  | 16 => ⟨S2x1, .i32⟩
  | 17 => ⟨S2x1, .i1⟩
  | 18 => ⟨S1x1, .i32⟩
  | 19 => ⟨S2x1, .i32⟩
  | 20 => ⟨S2x1, .i1⟩
  | 21 => ⟨S2x1, .i1⟩
  | 22 => ⟨S_, .i1⟩
  | 23 => ⟨S2, .i1⟩
  | 24 => ⟨S2x2048x1024, .f32⟩
  | 25 => ⟨S2x2048x1024, .i1⟩
  | 26 => ⟨S_, .f32⟩
  | 27 => ⟨S2x2048x1024, .f32⟩
  | 28 => ⟨S2x2048x1024, .f32⟩
  | 29 => ⟨S1x64x1024, .f32⟩
  | 30 => ⟨S64x1024, .f32⟩
  | 31 => ⟨S2x2048x64, .f32⟩
  | 32 => ⟨S1x64, .f32⟩
  | 33 => ⟨S64, .f32⟩
  | 34 => ⟨S1x1x64, .f32⟩
  | 35 => ⟨S2x2048x64, .f32⟩
  | 36 => ⟨S2x2048x64, .f32⟩
  | 37 => ⟨S_, .f32⟩
  | 38 => ⟨S16x2048x64, .f32⟩
  | 39 => ⟨S_, .i32⟩
  | 40 => ⟨S2, .i32⟩
  | 41 => ⟨S2, .i1⟩
  | 42 => ⟨S_, .i32⟩
  | 43 => ⟨S2, .i32⟩
  | 44 => ⟨S2, .i32⟩
  | 45 => ⟨S2, .i32⟩
  | 46 => ⟨S2x1, .i32⟩
  | 47 => ⟨S16x2048x64, .f32⟩
  | 48 => ⟨S1x2, .i32⟩
  | 49 => ⟨S2, .i32⟩
  | 50 => ⟨S_, .i32⟩
  | 51 => ⟨S2, .i32⟩
  | 52 => ⟨S2, .i1⟩
  | 53 => ⟨S_, .i32⟩
  | 54 => ⟨S2, .i32⟩
  | 55 => ⟨S2, .i32⟩
  | 56 => ⟨S2, .i32⟩
  | 57 => ⟨S2x1, .i32⟩
  | 58 => ⟨S1, .i32⟩
  | 59 => ⟨S_, .i32⟩
  | 60 => ⟨S2x1, .i32⟩
  | 61 => ⟨S2x1, .i1⟩
  | 62 => ⟨S1x1, .i32⟩
  | 63 => ⟨S2x1, .i32⟩
  | 64 => ⟨S2x1, .i1⟩
  | 65 => ⟨S2x1, .i1⟩
  | 66 => ⟨S_, .i1⟩
  | 67 => ⟨S2, .i1⟩
  | 68 => ⟨S2x2048x1024, .f32⟩
  | 69 => ⟨S2x2048x1024, .i1⟩
  | 70 => ⟨S_, .f32⟩
  | 71 => ⟨S2x2048x1024, .f32⟩
  | 72 => ⟨S2x2048x1024, .f32⟩
  | 73 => ⟨S1x64x1024, .f32⟩
  | 74 => ⟨S64x1024, .f32⟩
  | 75 => ⟨S2x2048x64, .f32⟩
  | 76 => ⟨S1x64, .f32⟩
  | 77 => ⟨S64, .f32⟩
  | 78 => ⟨S1x1x64, .f32⟩
  | 79 => ⟨S2x2048x64, .f32⟩
  | 80 => ⟨S2x2048x64, .f32⟩
  | 81 => ⟨S_, .f32⟩
  | 82 => ⟨S16x2048x64, .f32⟩
  | 83 => ⟨S_, .i32⟩
  | 84 => ⟨S2, .i32⟩
  | 85 => ⟨S2, .i1⟩
  | 86 => ⟨S_, .i32⟩
  | 87 => ⟨S2, .i32⟩
  | 88 => ⟨S2, .i32⟩
  | 89 => ⟨S2, .i32⟩
  | 90 => ⟨S2x1, .i32⟩
  | 91 => ⟨S16x2048x64, .f32⟩
  | 92 => ⟨S1x2, .i32⟩
  | 93 => ⟨S2, .i32⟩
  | 94 => ⟨S_, .i32⟩
  | 95 => ⟨S2, .i32⟩
  | 96 => ⟨S2, .i1⟩
  | 97 => ⟨S_, .i32⟩
  | 98 => ⟨S2, .i32⟩
  | 99 => ⟨S2, .i32⟩
  | 100 => ⟨S2, .i32⟩
  | 101 => ⟨S2x1, .i32⟩
  | 102 => ⟨S1, .i32⟩
  | 103 => ⟨S_, .i32⟩
  | 104 => ⟨S2x1, .i32⟩
  | 105 => ⟨S2x1, .i1⟩
  | 106 => ⟨S1x1, .i32⟩
  | 107 => ⟨S2x1, .i32⟩
  | 108 => ⟨S2x1, .i1⟩
  | 109 => ⟨S2x1, .i1⟩
  | 110 => ⟨S_, .i1⟩
  | 111 => ⟨S2, .i1⟩
  | 112 => ⟨S2x2048x1024, .f32⟩
  | 113 => ⟨S2x2048x1024, .i1⟩
  | 114 => ⟨S_, .f32⟩
  | 115 => ⟨S2x2048x1024, .f32⟩
  | 116 => ⟨S2x2048x1024, .f32⟩
  | 117 => ⟨S1x64x1024, .f32⟩
  | 118 => ⟨S64x1024, .f32⟩
  | 119 => ⟨S2x2048x64, .f32⟩
  | 120 => ⟨S1x64, .f32⟩
  | 121 => ⟨S64, .f32⟩
  | 122 => ⟨S1x1x64, .f32⟩
  | 123 => ⟨S2x2048x64, .f32⟩
  | 124 => ⟨S2x2048x64, .f32⟩
  | 125 => ⟨S_, .f32⟩
  | 126 => ⟨S16x2048x64, .f32⟩
  | 127 => ⟨S_, .i32⟩
  | _ => ⟨S16x2048x1024, .f32⟩

abbrev hbmTy0_1 (i : Nat) : BufTy := match i % 128 with
  | 0 => ⟨S2, .i32⟩
  | 1 => ⟨S2, .i1⟩
  | 2 => ⟨S_, .i32⟩
  | 3 => ⟨S2, .i32⟩
  | 4 => ⟨S2, .i32⟩
  | 5 => ⟨S2, .i32⟩
  | 6 => ⟨S2x1, .i32⟩
  | 7 => ⟨S16x2048x64, .f32⟩
  | 8 => ⟨S1x2, .i32⟩
  | 9 => ⟨S2, .i32⟩
  | 10 => ⟨S_, .i32⟩
  | 11 => ⟨S2, .i32⟩
  | 12 => ⟨S2, .i1⟩
  | 13 => ⟨S_, .i32⟩
  | 14 => ⟨S2, .i32⟩
  | 15 => ⟨S2, .i32⟩
  | 16 => ⟨S2, .i32⟩
  | 17 => ⟨S2x1, .i32⟩
  | 18 => ⟨S1, .i32⟩
  | 19 => ⟨S_, .i32⟩
  | 20 => ⟨S2x1, .i32⟩
  | 21 => ⟨S2x1, .i1⟩
  | 22 => ⟨S1x1, .i32⟩
  | 23 => ⟨S2x1, .i32⟩
  | 24 => ⟨S2x1, .i1⟩
  | 25 => ⟨S2x1, .i1⟩
  | 26 => ⟨S_, .i1⟩
  | 27 => ⟨S2, .i1⟩
  | 28 => ⟨S2x2048x1024, .f32⟩
  | 29 => ⟨S2x2048x1024, .i1⟩
  | 30 => ⟨S_, .f32⟩
  | 31 => ⟨S2x2048x1024, .f32⟩
  | 32 => ⟨S2x2048x1024, .f32⟩
  | 33 => ⟨S1x64x1024, .f32⟩
  | 34 => ⟨S64x1024, .f32⟩
  | 35 => ⟨S2x2048x64, .f32⟩
  | 36 => ⟨S1x64, .f32⟩
  | 37 => ⟨S64, .f32⟩
  | 38 => ⟨S1x1x64, .f32⟩
  | 39 => ⟨S2x2048x64, .f32⟩
  | 40 => ⟨S2x2048x64, .f32⟩
  | 41 => ⟨S_, .f32⟩
  | 42 => ⟨S16x2048x64, .f32⟩
  | 43 => ⟨S_, .i32⟩
  | 44 => ⟨S2, .i32⟩
  | 45 => ⟨S2, .i1⟩
  | 46 => ⟨S_, .i32⟩
  | 47 => ⟨S2, .i32⟩
  | 48 => ⟨S2, .i32⟩
  | 49 => ⟨S2, .i32⟩
  | 50 => ⟨S2x1, .i32⟩
  | 51 => ⟨S16x2048x64, .f32⟩
  | 52 => ⟨S1x2, .i32⟩
  | 53 => ⟨S2, .i32⟩
  | 54 => ⟨S_, .i32⟩
  | 55 => ⟨S2, .i32⟩
  | 56 => ⟨S2, .i1⟩
  | 57 => ⟨S_, .i32⟩
  | 58 => ⟨S2, .i32⟩
  | 59 => ⟨S2, .i32⟩
  | 60 => ⟨S2, .i32⟩
  | 61 => ⟨S2x1, .i32⟩
  | 62 => ⟨S1, .i32⟩
  | 63 => ⟨S_, .i32⟩
  | 64 => ⟨S2x1, .i32⟩
  | 65 => ⟨S2x1, .i1⟩
  | 66 => ⟨S1x1, .i32⟩
  | 67 => ⟨S2x1, .i32⟩
  | 68 => ⟨S2x1, .i1⟩
  | 69 => ⟨S2x1, .i1⟩
  | 70 => ⟨S_, .i1⟩
  | 71 => ⟨S2, .i1⟩
  | 72 => ⟨S2x2048x1024, .f32⟩
  | 73 => ⟨S2x2048x1024, .i1⟩
  | 74 => ⟨S_, .f32⟩
  | 75 => ⟨S2x2048x1024, .f32⟩
  | 76 => ⟨S2x2048x1024, .f32⟩
  | 77 => ⟨S1x64x1024, .f32⟩
  | 78 => ⟨S64x1024, .f32⟩
  | 79 => ⟨S2x2048x64, .f32⟩
  | 80 => ⟨S1x64, .f32⟩
  | 81 => ⟨S64, .f32⟩
  | 82 => ⟨S1x1x64, .f32⟩
  | 83 => ⟨S2x2048x64, .f32⟩
  | 84 => ⟨S2x2048x64, .f32⟩
  | 85 => ⟨S_, .f32⟩
  | 86 => ⟨S16x2048x64, .f32⟩
  | 87 => ⟨S_, .i32⟩
  | 88 => ⟨S2, .i32⟩
  | 89 => ⟨S2, .i1⟩
  | 90 => ⟨S_, .i32⟩
  | 91 => ⟨S2, .i32⟩
  | 92 => ⟨S2, .i32⟩
  | 93 => ⟨S2, .i32⟩
  | 94 => ⟨S2x1, .i32⟩
  | 95 => ⟨S16x2048x64, .f32⟩
  | 96 => ⟨S1x2, .i32⟩
  | 97 => ⟨S2, .i32⟩
  | 98 => ⟨S_, .i32⟩
  | 99 => ⟨S2, .i32⟩
  | 100 => ⟨S2, .i1⟩
  | 101 => ⟨S_, .i32⟩
  | 102 => ⟨S2, .i32⟩
  | 103 => ⟨S2, .i32⟩
  | 104 => ⟨S2, .i32⟩
  | 105 => ⟨S2x1, .i32⟩
  | 106 => ⟨S1, .i32⟩
  | 107 => ⟨S_, .i32⟩
  | 108 => ⟨S2x1, .i32⟩
  | 109 => ⟨S2x1, .i1⟩
  | 110 => ⟨S1x1, .i32⟩
  | 111 => ⟨S2x1, .i32⟩
  | 112 => ⟨S2x1, .i1⟩
  | 113 => ⟨S2x1, .i1⟩
  | 114 => ⟨S_, .i1⟩
  | 115 => ⟨S2, .i1⟩
  | 116 => ⟨S2x2048x1024, .f32⟩
  | 117 => ⟨S2x2048x1024, .i1⟩
  | 118 => ⟨S_, .f32⟩
  | 119 => ⟨S2x2048x1024, .f32⟩
  | 120 => ⟨S2x2048x1024, .f32⟩
  | 121 => ⟨S1x64x1024, .f32⟩
  | 122 => ⟨S64x1024, .f32⟩
  | 123 => ⟨S2x2048x64, .f32⟩
  | 124 => ⟨S1x64, .f32⟩
  | 125 => ⟨S64, .f32⟩
  | 126 => ⟨S1x1x64, .f32⟩
  | 127 => ⟨S2x2048x64, .f32⟩
  | _ => ⟨S16x2048x1024, .f32⟩

abbrev hbmTy0_2 (i : Nat) : BufTy := match i % 128 with
  | 0 => ⟨S2x2048x64, .f32⟩
  | 1 => ⟨S_, .f32⟩
  | 2 => ⟨S16x2048x64, .f32⟩
  | 3 => ⟨S_, .i32⟩
  | 4 => ⟨S2, .i32⟩
  | 5 => ⟨S2, .i1⟩
  | 6 => ⟨S_, .i32⟩
  | 7 => ⟨S2, .i32⟩
  | 8 => ⟨S2, .i32⟩
  | 9 => ⟨S2, .i32⟩
  | 10 => ⟨S2x1, .i32⟩
  | 11 => ⟨S16x2048x64, .f32⟩
  | 12 => ⟨S1x2, .i32⟩
  | 13 => ⟨S2, .i32⟩
  | 14 => ⟨S_, .i32⟩
  | 15 => ⟨S2, .i32⟩
  | 16 => ⟨S2, .i1⟩
  | 17 => ⟨S_, .i32⟩
  | 18 => ⟨S2, .i32⟩
  | 19 => ⟨S2, .i32⟩
  | 20 => ⟨S2, .i32⟩
  | 21 => ⟨S2x1, .i32⟩
  | 22 => ⟨S1, .i32⟩
  | 23 => ⟨S_, .i32⟩
  | 24 => ⟨S2x1, .i32⟩
  | 25 => ⟨S2x1, .i1⟩
  | 26 => ⟨S1x1, .i32⟩
  | 27 => ⟨S2x1, .i32⟩
  | 28 => ⟨S2x1, .i1⟩
  | 29 => ⟨S2x1, .i1⟩
  | 30 => ⟨S_, .i1⟩
  | 31 => ⟨S2, .i1⟩
  | 32 => ⟨S2x2048x1024, .f32⟩
  | 33 => ⟨S2x2048x1024, .i1⟩
  | 34 => ⟨S_, .f32⟩
  | 35 => ⟨S2x2048x1024, .f32⟩
  | 36 => ⟨S2x2048x1024, .f32⟩
  | 37 => ⟨S1x64x1024, .f32⟩
  | 38 => ⟨S64x1024, .f32⟩
  | 39 => ⟨S2x2048x64, .f32⟩
  | 40 => ⟨S1x64, .f32⟩
  | 41 => ⟨S64, .f32⟩
  | 42 => ⟨S1x1x64, .f32⟩
  | 43 => ⟨S2x2048x64, .f32⟩
  | 44 => ⟨S2x2048x64, .f32⟩
  | 45 => ⟨S_, .f32⟩
  | 46 => ⟨S16x2048x64, .f32⟩
  | 47 => ⟨S_, .i32⟩
  | 48 => ⟨S2, .i32⟩
  | 49 => ⟨S2, .i1⟩
  | 50 => ⟨S_, .i32⟩
  | 51 => ⟨S2, .i32⟩
  | 52 => ⟨S2, .i32⟩
  | 53 => ⟨S2, .i32⟩
  | 54 => ⟨S2x1, .i32⟩
  | 55 => ⟨S16x2048x64, .f32⟩
  | 56 => ⟨S1x2, .i32⟩
  | 57 => ⟨S2, .i32⟩
  | 58 => ⟨S_, .i32⟩
  | 59 => ⟨S2, .i32⟩
  | 60 => ⟨S2, .i1⟩
  | 61 => ⟨S_, .i32⟩
  | 62 => ⟨S2, .i32⟩
  | 63 => ⟨S2, .i32⟩
  | 64 => ⟨S2, .i32⟩
  | 65 => ⟨S2x1, .i32⟩
  | 66 => ⟨S1, .i32⟩
  | 67 => ⟨S_, .i32⟩
  | 68 => ⟨S2x1, .i32⟩
  | 69 => ⟨S2x1, .i1⟩
  | 70 => ⟨S1x1, .i32⟩
  | 71 => ⟨S2x1, .i32⟩
  | 72 => ⟨S2x1, .i1⟩
  | 73 => ⟨S2x1, .i1⟩
  | 74 => ⟨S_, .i1⟩
  | 75 => ⟨S2, .i1⟩
  | 76 => ⟨S2x2048x1024, .f32⟩
  | 77 => ⟨S2x2048x1024, .i1⟩
  | 78 => ⟨S_, .f32⟩
  | 79 => ⟨S2x2048x1024, .f32⟩
  | 80 => ⟨S2x2048x1024, .f32⟩
  | 81 => ⟨S1x64x1024, .f32⟩
  | 82 => ⟨S64x1024, .f32⟩
  | 83 => ⟨S2x2048x64, .f32⟩
  | 84 => ⟨S1x64, .f32⟩
  | 85 => ⟨S64, .f32⟩
  | 86 => ⟨S1x1x64, .f32⟩
  | 87 => ⟨S2x2048x64, .f32⟩
  | 88 => ⟨S2x2048x64, .f32⟩
  | 89 => ⟨S_, .f32⟩
  | 90 => ⟨S16x2048x64, .f32⟩
  | 91 => ⟨S_, .i32⟩
  | 92 => ⟨S2, .i32⟩
  | 93 => ⟨S2, .i1⟩
  | 94 => ⟨S_, .i32⟩
  | 95 => ⟨S2, .i32⟩
  | 96 => ⟨S2, .i32⟩
  | 97 => ⟨S2, .i32⟩
  | 98 => ⟨S2x1, .i32⟩
  | 99 => ⟨S16x2048x64, .f32⟩
  | 100 => ⟨S16x2048x512, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_v11 : Ref sig .tc := ⟨.hbm, 38, rfl⟩
abbrev main_c : Ref sig .tc := ⟨.hbm, 39, rfl⟩
abbrev main_v12 : Ref sig .tc := ⟨.hbm, 40, rfl⟩
abbrev main_v13 : Ref sig .tc := ⟨.hbm, 41, rfl⟩
abbrev main_c_0 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_cst_1 : Ref sig .tc := ⟨.hbm, 81, rfl⟩
abbrev main_v30 : Ref sig .tc := ⟨.hbm, 82, rfl⟩
abbrev main_c_2 : Ref sig .tc := ⟨.hbm, 83, rfl⟩
abbrev main_v31 : Ref sig .tc := ⟨.hbm, 84, rfl⟩
abbrev main_v32 : Ref sig .tc := ⟨.hbm, 85, rfl⟩
abbrev main_c_3 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_call2_c : Ref sig .tc := ⟨.hbm, 94, rfl⟩
abbrev main_call2_v0 : Ref sig .tc := ⟨.hbm, 95, rfl⟩
abbrev main_call2_v1 : Ref sig .tc := ⟨.hbm, 96, rfl⟩
abbrev main_call2_c_0 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_c_1 : Ref sig .tc := ⟨.hbm, 102, rfl⟩
abbrev main_call2_c_2 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_c_3 : Ref sig .tc := ⟨.hbm, 110, rfl⟩
abbrev main_call2_v12 : Ref sig .tc := ⟨.hbm, 111, rfl⟩
abbrev main_call2_v13 : Ref sig .tc := ⟨.hbm, 112, rfl⟩
abbrev main_call2_v14 : Ref sig .tc := ⟨.hbm, 113, rfl⟩
abbrev main_call2_cst : Ref sig .tc := ⟨.hbm, 114, rfl⟩
abbrev main_call2_v15 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_cst_4 : Ref sig .tc := ⟨.hbm, 125, rfl⟩
abbrev main_v49 : Ref sig .tc := ⟨.hbm, 126, rfl⟩
abbrev main_c_5 : Ref sig .tc := ⟨.hbm, 127, rfl⟩
abbrev main_v50 : Ref sig .tc := ⟨.hbm, 128, rfl⟩
abbrev main_v51 : Ref sig .tc := ⟨.hbm, 129, rfl⟩
abbrev main_c_6 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_call3_c : Ref sig .tc := ⟨.hbm, 138, rfl⟩
abbrev main_call3_v0 : Ref sig .tc := ⟨.hbm, 139, rfl⟩
abbrev main_call3_v1 : Ref sig .tc := ⟨.hbm, 140, rfl⟩
abbrev main_call3_c_0 : Ref sig .tc := ⟨.hbm, 141, rfl⟩
abbrev main_call3_v2 : Ref sig .tc := ⟨.hbm, 142, rfl⟩
abbrev main_call3_v3 : Ref sig .tc := ⟨.hbm, 143, rfl⟩
abbrev main_call3_v4 : Ref sig .tc := ⟨.hbm, 144, rfl⟩
abbrev main_call3_v5 : Ref sig .tc := ⟨.hbm, 145, rfl⟩
abbrev main_call3_c_1 : Ref sig .tc := ⟨.hbm, 146, rfl⟩
abbrev main_call3_c_2 : Ref sig .tc := ⟨.hbm, 147, rfl⟩
abbrev main_call3_v6 : Ref sig .tc := ⟨.hbm, 148, rfl⟩
abbrev main_call3_v7 : Ref sig .tc := ⟨.hbm, 149, rfl⟩
abbrev main_call3_v8 : Ref sig .tc := ⟨.hbm, 150, rfl⟩
abbrev main_call3_v9 : Ref sig .tc := ⟨.hbm, 151, rfl⟩
abbrev main_call3_v10 : Ref sig .tc := ⟨.hbm, 152, rfl⟩
abbrev main_call3_v11 : Ref sig .tc := ⟨.hbm, 153, rfl⟩
abbrev main_call3_c_3 : Ref sig .tc := ⟨.hbm, 154, rfl⟩
abbrev main_call3_v12 : Ref sig .tc := ⟨.hbm, 155, rfl⟩
abbrev main_call3_v13 : Ref sig .tc := ⟨.hbm, 156, rfl⟩
abbrev main_call3_v14 : Ref sig .tc := ⟨.hbm, 157, rfl⟩
abbrev main_call3_cst : Ref sig .tc := ⟨.hbm, 158, rfl⟩
abbrev main_call3_v15 : Ref sig .tc := ⟨.hbm, 159, rfl⟩
abbrev main_v59 : Ref sig .tc := ⟨.hbm, 160, rfl⟩
abbrev main_v60 : Ref sig .tc := ⟨.hbm, 161, rfl⟩
abbrev main_v61 : Ref sig .tc := ⟨.hbm, 162, rfl⟩
abbrev main_v62 : Ref sig .tc := ⟨.hbm, 163, rfl⟩
abbrev main_v63 : Ref sig .tc := ⟨.hbm, 164, rfl⟩
abbrev main_v64 : Ref sig .tc := ⟨.hbm, 165, rfl⟩
abbrev main_v65 : Ref sig .tc := ⟨.hbm, 166, rfl⟩
abbrev main_v66 : Ref sig .tc := ⟨.hbm, 167, rfl⟩
abbrev main_v67 : Ref sig .tc := ⟨.hbm, 168, rfl⟩
abbrev main_cst_7 : Ref sig .tc := ⟨.hbm, 169, rfl⟩
abbrev main_v68 : Ref sig .tc := ⟨.hbm, 170, rfl⟩
abbrev main_c_8 : Ref sig .tc := ⟨.hbm, 171, rfl⟩
abbrev main_v69 : Ref sig .tc := ⟨.hbm, 172, rfl⟩
abbrev main_v70 : Ref sig .tc := ⟨.hbm, 173, rfl⟩
abbrev main_c_9 : Ref sig .tc := ⟨.hbm, 174, rfl⟩
abbrev main_v71 : Ref sig .tc := ⟨.hbm, 175, rfl⟩
abbrev main_v72 : Ref sig .tc := ⟨.hbm, 176, rfl⟩
abbrev main_v73 : Ref sig .tc := ⟨.hbm, 177, rfl⟩
abbrev main_v74 : Ref sig .tc := ⟨.hbm, 178, rfl⟩
abbrev main_v75 : Ref sig .tc := ⟨.hbm, 179, rfl⟩
abbrev main_v76 : Ref sig .tc := ⟨.hbm, 180, rfl⟩
abbrev main_v77 : Ref sig .tc := ⟨.hbm, 181, rfl⟩
abbrev main_call4_c : Ref sig .tc := ⟨.hbm, 182, rfl⟩
abbrev main_call4_v0 : Ref sig .tc := ⟨.hbm, 183, rfl⟩
abbrev main_call4_v1 : Ref sig .tc := ⟨.hbm, 184, rfl⟩
abbrev main_call4_c_0 : Ref sig .tc := ⟨.hbm, 185, rfl⟩
abbrev main_call4_v2 : Ref sig .tc := ⟨.hbm, 186, rfl⟩
abbrev main_call4_v3 : Ref sig .tc := ⟨.hbm, 187, rfl⟩
abbrev main_call4_v4 : Ref sig .tc := ⟨.hbm, 188, rfl⟩
abbrev main_call4_v5 : Ref sig .tc := ⟨.hbm, 189, rfl⟩
abbrev main_call4_c_1 : Ref sig .tc := ⟨.hbm, 190, rfl⟩
abbrev main_call4_c_2 : Ref sig .tc := ⟨.hbm, 191, rfl⟩
abbrev main_call4_v6 : Ref sig .tc := ⟨.hbm, 192, rfl⟩
abbrev main_call4_v7 : Ref sig .tc := ⟨.hbm, 193, rfl⟩
abbrev main_call4_v8 : Ref sig .tc := ⟨.hbm, 194, rfl⟩
abbrev main_call4_v9 : Ref sig .tc := ⟨.hbm, 195, rfl⟩
abbrev main_call4_v10 : Ref sig .tc := ⟨.hbm, 196, rfl⟩
abbrev main_call4_v11 : Ref sig .tc := ⟨.hbm, 197, rfl⟩
abbrev main_call4_c_3 : Ref sig .tc := ⟨.hbm, 198, rfl⟩
abbrev main_call4_v12 : Ref sig .tc := ⟨.hbm, 199, rfl⟩
abbrev main_call4_v13 : Ref sig .tc := ⟨.hbm, 200, rfl⟩
abbrev main_call4_v14 : Ref sig .tc := ⟨.hbm, 201, rfl⟩
abbrev main_call4_cst : Ref sig .tc := ⟨.hbm, 202, rfl⟩
abbrev main_call4_v15 : Ref sig .tc := ⟨.hbm, 203, rfl⟩
abbrev main_v78 : Ref sig .tc := ⟨.hbm, 204, rfl⟩
abbrev main_v79 : Ref sig .tc := ⟨.hbm, 205, rfl⟩
abbrev main_v80 : Ref sig .tc := ⟨.hbm, 206, rfl⟩
abbrev main_v81 : Ref sig .tc := ⟨.hbm, 207, rfl⟩
abbrev main_v82 : Ref sig .tc := ⟨.hbm, 208, rfl⟩
abbrev main_v83 : Ref sig .tc := ⟨.hbm, 209, rfl⟩
abbrev main_v84 : Ref sig .tc := ⟨.hbm, 210, rfl⟩
abbrev main_v85 : Ref sig .tc := ⟨.hbm, 211, rfl⟩
abbrev main_v86 : Ref sig .tc := ⟨.hbm, 212, rfl⟩
abbrev main_cst_10 : Ref sig .tc := ⟨.hbm, 213, rfl⟩
abbrev main_v87 : Ref sig .tc := ⟨.hbm, 214, rfl⟩
abbrev main_c_11 : Ref sig .tc := ⟨.hbm, 215, rfl⟩
abbrev main_v88 : Ref sig .tc := ⟨.hbm, 216, rfl⟩
abbrev main_v89 : Ref sig .tc := ⟨.hbm, 217, rfl⟩
abbrev main_c_12 : Ref sig .tc := ⟨.hbm, 218, rfl⟩
abbrev main_v90 : Ref sig .tc := ⟨.hbm, 219, rfl⟩
abbrev main_v91 : Ref sig .tc := ⟨.hbm, 220, rfl⟩
abbrev main_v92 : Ref sig .tc := ⟨.hbm, 221, rfl⟩
abbrev main_v93 : Ref sig .tc := ⟨.hbm, 222, rfl⟩
abbrev main_v94 : Ref sig .tc := ⟨.hbm, 223, rfl⟩
abbrev main_v95 : Ref sig .tc := ⟨.hbm, 224, rfl⟩
abbrev main_v96 : Ref sig .tc := ⟨.hbm, 225, rfl⟩
abbrev main_call5_c : Ref sig .tc := ⟨.hbm, 226, rfl⟩
abbrev main_call5_v0 : Ref sig .tc := ⟨.hbm, 227, rfl⟩
abbrev main_call5_v1 : Ref sig .tc := ⟨.hbm, 228, rfl⟩
abbrev main_call5_c_0 : Ref sig .tc := ⟨.hbm, 229, rfl⟩
abbrev main_call5_v2 : Ref sig .tc := ⟨.hbm, 230, rfl⟩
abbrev main_call5_v3 : Ref sig .tc := ⟨.hbm, 231, rfl⟩
abbrev main_call5_v4 : Ref sig .tc := ⟨.hbm, 232, rfl⟩
abbrev main_call5_v5 : Ref sig .tc := ⟨.hbm, 233, rfl⟩
abbrev main_call5_c_1 : Ref sig .tc := ⟨.hbm, 234, rfl⟩
abbrev main_call5_c_2 : Ref sig .tc := ⟨.hbm, 235, rfl⟩
abbrev main_call5_v6 : Ref sig .tc := ⟨.hbm, 236, rfl⟩
abbrev main_call5_v7 : Ref sig .tc := ⟨.hbm, 237, rfl⟩
abbrev main_call5_v8 : Ref sig .tc := ⟨.hbm, 238, rfl⟩
abbrev main_call5_v9 : Ref sig .tc := ⟨.hbm, 239, rfl⟩
abbrev main_call5_v10 : Ref sig .tc := ⟨.hbm, 240, rfl⟩
abbrev main_call5_v11 : Ref sig .tc := ⟨.hbm, 241, rfl⟩
abbrev main_call5_c_3 : Ref sig .tc := ⟨.hbm, 242, rfl⟩
abbrev main_call5_v12 : Ref sig .tc := ⟨.hbm, 243, rfl⟩
abbrev main_call5_v13 : Ref sig .tc := ⟨.hbm, 244, rfl⟩
abbrev main_call5_v14 : Ref sig .tc := ⟨.hbm, 245, rfl⟩
abbrev main_call5_cst : Ref sig .tc := ⟨.hbm, 246, rfl⟩
abbrev main_call5_v15 : Ref sig .tc := ⟨.hbm, 247, rfl⟩
abbrev main_v97 : Ref sig .tc := ⟨.hbm, 248, rfl⟩
abbrev main_v98 : Ref sig .tc := ⟨.hbm, 249, rfl⟩
abbrev main_v99 : Ref sig .tc := ⟨.hbm, 250, rfl⟩
abbrev main_v100 : Ref sig .tc := ⟨.hbm, 251, rfl⟩
abbrev main_v101 : Ref sig .tc := ⟨.hbm, 252, rfl⟩
abbrev main_v102 : Ref sig .tc := ⟨.hbm, 253, rfl⟩
abbrev main_v103 : Ref sig .tc := ⟨.hbm, 254, rfl⟩
abbrev main_v104 : Ref sig .tc := ⟨.hbm, 255, rfl⟩
abbrev main_v105 : Ref sig .tc := ⟨.hbm, 256, rfl⟩
abbrev main_cst_13 : Ref sig .tc := ⟨.hbm, 257, rfl⟩
abbrev main_v106 : Ref sig .tc := ⟨.hbm, 258, rfl⟩
abbrev main_c_14 : Ref sig .tc := ⟨.hbm, 259, rfl⟩
abbrev main_v107 : Ref sig .tc := ⟨.hbm, 260, rfl⟩
abbrev main_v108 : Ref sig .tc := ⟨.hbm, 261, rfl⟩
abbrev main_c_15 : Ref sig .tc := ⟨.hbm, 262, rfl⟩
abbrev main_v109 : Ref sig .tc := ⟨.hbm, 263, rfl⟩
abbrev main_v110 : Ref sig .tc := ⟨.hbm, 264, rfl⟩
abbrev main_v111 : Ref sig .tc := ⟨.hbm, 265, rfl⟩
abbrev main_v112 : Ref sig .tc := ⟨.hbm, 266, rfl⟩
abbrev main_v113 : Ref sig .tc := ⟨.hbm, 267, rfl⟩
abbrev main_v114 : Ref sig .tc := ⟨.hbm, 268, rfl⟩
abbrev main_v115 : Ref sig .tc := ⟨.hbm, 269, rfl⟩
abbrev main_call6_c : Ref sig .tc := ⟨.hbm, 270, rfl⟩
abbrev main_call6_v0 : Ref sig .tc := ⟨.hbm, 271, rfl⟩
abbrev main_call6_v1 : Ref sig .tc := ⟨.hbm, 272, rfl⟩
abbrev main_call6_c_0 : Ref sig .tc := ⟨.hbm, 273, rfl⟩
abbrev main_call6_v2 : Ref sig .tc := ⟨.hbm, 274, rfl⟩
abbrev main_call6_v3 : Ref sig .tc := ⟨.hbm, 275, rfl⟩
abbrev main_call6_v4 : Ref sig .tc := ⟨.hbm, 276, rfl⟩
abbrev main_call6_v5 : Ref sig .tc := ⟨.hbm, 277, rfl⟩
abbrev main_call6_c_1 : Ref sig .tc := ⟨.hbm, 278, rfl⟩
abbrev main_call6_c_2 : Ref sig .tc := ⟨.hbm, 279, rfl⟩
abbrev main_call6_v6 : Ref sig .tc := ⟨.hbm, 280, rfl⟩
abbrev main_call6_v7 : Ref sig .tc := ⟨.hbm, 281, rfl⟩
abbrev main_call6_v8 : Ref sig .tc := ⟨.hbm, 282, rfl⟩
abbrev main_call6_v9 : Ref sig .tc := ⟨.hbm, 283, rfl⟩
abbrev main_call6_v10 : Ref sig .tc := ⟨.hbm, 284, rfl⟩
abbrev main_call6_v11 : Ref sig .tc := ⟨.hbm, 285, rfl⟩
abbrev main_call6_c_3 : Ref sig .tc := ⟨.hbm, 286, rfl⟩
abbrev main_call6_v12 : Ref sig .tc := ⟨.hbm, 287, rfl⟩
abbrev main_call6_v13 : Ref sig .tc := ⟨.hbm, 288, rfl⟩
abbrev main_call6_v14 : Ref sig .tc := ⟨.hbm, 289, rfl⟩
abbrev main_call6_cst : Ref sig .tc := ⟨.hbm, 290, rfl⟩
abbrev main_call6_v15 : Ref sig .tc := ⟨.hbm, 291, rfl⟩
abbrev main_v116 : Ref sig .tc := ⟨.hbm, 292, rfl⟩
abbrev main_v117 : Ref sig .tc := ⟨.hbm, 293, rfl⟩
abbrev main_v118 : Ref sig .tc := ⟨.hbm, 294, rfl⟩
abbrev main_v119 : Ref sig .tc := ⟨.hbm, 295, rfl⟩
abbrev main_v120 : Ref sig .tc := ⟨.hbm, 296, rfl⟩
abbrev main_v121 : Ref sig .tc := ⟨.hbm, 297, rfl⟩
abbrev main_v122 : Ref sig .tc := ⟨.hbm, 298, rfl⟩
abbrev main_v123 : Ref sig .tc := ⟨.hbm, 299, rfl⟩
abbrev main_v124 : Ref sig .tc := ⟨.hbm, 300, rfl⟩
abbrev main_cst_16 : Ref sig .tc := ⟨.hbm, 301, rfl⟩
abbrev main_v125 : Ref sig .tc := ⟨.hbm, 302, rfl⟩
abbrev main_c_17 : Ref sig .tc := ⟨.hbm, 303, rfl⟩
abbrev main_v126 : Ref sig .tc := ⟨.hbm, 304, rfl⟩
abbrev main_v127 : Ref sig .tc := ⟨.hbm, 305, rfl⟩
abbrev main_c_18 : Ref sig .tc := ⟨.hbm, 306, rfl⟩
abbrev main_v128 : Ref sig .tc := ⟨.hbm, 307, rfl⟩
abbrev main_v129 : Ref sig .tc := ⟨.hbm, 308, rfl⟩
abbrev main_v130 : Ref sig .tc := ⟨.hbm, 309, rfl⟩
abbrev main_v131 : Ref sig .tc := ⟨.hbm, 310, rfl⟩
abbrev main_v132 : Ref sig .tc := ⟨.hbm, 311, rfl⟩
abbrev main_v133 : Ref sig .tc := ⟨.hbm, 312, rfl⟩
abbrev main_v134 : Ref sig .tc := ⟨.hbm, 313, rfl⟩
abbrev main_call7_c : Ref sig .tc := ⟨.hbm, 314, rfl⟩
abbrev main_call7_v0 : Ref sig .tc := ⟨.hbm, 315, rfl⟩
abbrev main_call7_v1 : Ref sig .tc := ⟨.hbm, 316, rfl⟩
abbrev main_call7_c_0 : Ref sig .tc := ⟨.hbm, 317, rfl⟩
abbrev main_call7_v2 : Ref sig .tc := ⟨.hbm, 318, rfl⟩
abbrev main_call7_v3 : Ref sig .tc := ⟨.hbm, 319, rfl⟩
abbrev main_call7_v4 : Ref sig .tc := ⟨.hbm, 320, rfl⟩
abbrev main_call7_v5 : Ref sig .tc := ⟨.hbm, 321, rfl⟩
abbrev main_call7_c_1 : Ref sig .tc := ⟨.hbm, 322, rfl⟩
abbrev main_call7_c_2 : Ref sig .tc := ⟨.hbm, 323, rfl⟩
abbrev main_call7_v6 : Ref sig .tc := ⟨.hbm, 324, rfl⟩
abbrev main_call7_v7 : Ref sig .tc := ⟨.hbm, 325, rfl⟩
abbrev main_call7_v8 : Ref sig .tc := ⟨.hbm, 326, rfl⟩
abbrev main_call7_v9 : Ref sig .tc := ⟨.hbm, 327, rfl⟩
abbrev main_call7_v10 : Ref sig .tc := ⟨.hbm, 328, rfl⟩
abbrev main_call7_v11 : Ref sig .tc := ⟨.hbm, 329, rfl⟩
abbrev main_call7_c_3 : Ref sig .tc := ⟨.hbm, 330, rfl⟩
abbrev main_call7_v12 : Ref sig .tc := ⟨.hbm, 331, rfl⟩
abbrev main_call7_v13 : Ref sig .tc := ⟨.hbm, 332, rfl⟩
abbrev main_call7_v14 : Ref sig .tc := ⟨.hbm, 333, rfl⟩
abbrev main_call7_cst : Ref sig .tc := ⟨.hbm, 334, rfl⟩
abbrev main_call7_v15 : Ref sig .tc := ⟨.hbm, 335, rfl⟩
abbrev main_v135 : Ref sig .tc := ⟨.hbm, 336, rfl⟩
abbrev main_v136 : Ref sig .tc := ⟨.hbm, 337, rfl⟩
abbrev main_v137 : Ref sig .tc := ⟨.hbm, 338, rfl⟩
abbrev main_v138 : Ref sig .tc := ⟨.hbm, 339, rfl⟩
abbrev main_v139 : Ref sig .tc := ⟨.hbm, 340, rfl⟩
abbrev main_v140 : Ref sig .tc := ⟨.hbm, 341, rfl⟩
abbrev main_v141 : Ref sig .tc := ⟨.hbm, 342, rfl⟩
abbrev main_v142 : Ref sig .tc := ⟨.hbm, 343, rfl⟩
abbrev main_v143 : Ref sig .tc := ⟨.hbm, 344, rfl⟩
abbrev main_cst_19 : Ref sig .tc := ⟨.hbm, 345, rfl⟩
abbrev main_v144 : Ref sig .tc := ⟨.hbm, 346, rfl⟩
abbrev main_c_20 : Ref sig .tc := ⟨.hbm, 347, rfl⟩
abbrev main_v145 : Ref sig .tc := ⟨.hbm, 348, rfl⟩
abbrev main_v146 : Ref sig .tc := ⟨.hbm, 349, rfl⟩
abbrev main_c_21 : Ref sig .tc := ⟨.hbm, 350, rfl⟩
abbrev main_v147 : Ref sig .tc := ⟨.hbm, 351, rfl⟩
abbrev main_v148 : Ref sig .tc := ⟨.hbm, 352, rfl⟩
abbrev main_v149 : Ref sig .tc := ⟨.hbm, 353, rfl⟩
abbrev main_v150 : Ref sig .tc := ⟨.hbm, 354, rfl⟩
abbrev main_v151 : Ref sig .tc := ⟨.hbm, 355, rfl⟩
abbrev main_v152 : Ref sig .tc := ⟨.hbm, 356, rfl⟩

abbrev nD : Nat := 1
abbrev τ : Topo := Topo.v7x

variable {F : FTy → Type} [FloatOps F]
-- ==== Proof.TableBound.lean ====
/- A table of experts holds experts: a vector of sixteen words, zeros but for the updates that a scatter sets in it, each update the
   number of one of the eight experts, has no word from 8 on, whatever the words that steer the scatter. -/
module

public import Idealize.ShloMosaic.Lib.Routing.OpsOrder
public import Idealize.ShloMosaic.Lib.Routing.Shapes

@[expose] public section

noncomputable section

namespace Cert.Proof

open Idealize.ShloMosaic Idealize.ShloMosaic.Routing

/-- The scatter of the numbers 0, 0, 1, 1, …, 7, 7 onto sixteen zeros leaves every word below 8. -/
theorem table_word_lt (d : ScatterDims (shape1 16) (shape2 16 1) (shape1 16)) (idx : IVec (shape2 16 1) 32)
    (h0 : shape0.BroadcastsInDim (shape1 16) (![] : Fin 0 → Fin (shape1 16).rank))
    (hb : (shape1 8).BroadcastsInDim (shape2 8 2) (![0] : Fin 1 → Fin (shape2 8 2).rank))
    (hc : (shape2 8 2).ShapeCasts (shape1 16)) (i : (shape1 16).Idx) :
    (Host.scatter d (fun _ b => b) (broadcastInDim (shape1 16) ![] h0 (constantI shape0 32 0#32)) idx
      (shapeCast (shape1 16) (broadcastInDim (shape2 8 2) ![0] hb (iotaInDim (shape1 8) 32 0)) hc) i).toNat < 8 := by
  refine scatter_forall d (fun _ b => b) (fun v : BitVec 32 => v.toNat < 8) (fun _ _ _ h => h) _ idx _
    (fun _ => by simp [broadcastInDim, constantI]) (fun j => ?_) i
  unfold shapeCast broadcastInDim iotaInDim
  have h : ∀ n : Fin 8, (BitVec.ofNat 32 n.val).toNat < 8 := by decide
  exact h _

/-- A block of one expert's weights, whole in its other axes, lies inside the eight experts' when the word that names it is below 8. -/
theorem weights_fit (w : BitVec 32) (hw : w.toNat < 8) (a : Fin 3) :
    ((![w.toNat, (0#32).toNat, (0#32).toNat] : Fin 3 → Nat) a + 1) * (![1, 1024, 64] : Fin 3 → Nat) a ≤ (![8, 1024, 64] : Fin 3 → Nat) a := by
  match a with
  | ⟨0, _⟩ => show (w.toNat + 1) * 1 ≤ 8; omega
  | ⟨1, _⟩ => exact Nat.le_refl _
  | ⟨2, _⟩ => exact Nat.le_refl _

end Cert.Proof

end
-- ==== Proof.Table.lean ====
/- The prefetched table of the idealized kernel, and the side condition of the launch: every point's weight block lies inside
   the transposed weights. -/
module

public import proofs.«01_k».proof.Proof.TableBound
public import proofs.«01_k».proof.Proof.Gen.KernelIdeal.Frame
public import Idealize.ShloMosaic.Lib.Claim
public import Idealize.ShloMosaic.Lib.StableHlo.RunRead

@[expose] public section

set_option maxRecDepth 16384

noncomputable section

namespace Cert.KernelIdeal.Table

open Idealize.ShloMosaic Idealize.ShloMosaic.TcCoe Idealize.SL.Sem
open Cert.KernelIdeal Cert.KernelIdeal.Gen

variable {F : FTy → Type} [FloatOps F]

/-- The index words in a row, a negative one counted from the end. -/
def wrapped (idx : IVec S8x2 32) : IVec S16 32 :=
  select (cmpi .slt (shapeCast S16 idx shapeCasts_S8x2_S16) (broadcastInDim S16 ![] bcast_S_S16 (constantI S_ 32 0#32)))
    (addi (shapeCast S16 idx shapeCasts_S8x2_S16) (broadcastInDim S16 ![] bcast_S_S16 (constantI S_ 32 16#32)))
    (shapeCast S16 idx shapeCasts_S8x2_S16)

/-- The table of owners: sixteen zeros, and at each named sequence the number of the expert that names it. -/
def owner (idx : IVec S8x2 32) : IVec S16 32 :=
  Host.scatter scatter_S16_S16x1_S16_n_0_0_1 (fun _ b => b) (broadcastInDim S16 ![] bcast_S_S16 (constantI S_ 32 0#32))
    (broadcastInDim S16x1 ![0] bcast_S16_S16x1_0 (wrapped idx))
    (shapeCast S16 (broadcastInDim S8x2 ![0] bcast_S8_S8x2_0 (iotaInDim S8 32 0)) shapeCasts_S8x2_S16)

/-- Every word of the table names an expert. -/
theorem owner_lt (idx : IVec S8x2 32) (i : S16.Idx) : (owner idx i).toNat < 8 :=
  Cert.Proof.table_word_lt _ _ _ _ _ i

variable (m : (ℓ : Loc nD τ sig) → Buf (Elt F) ℓ)

/-- The table the launch prefetches is the table of owners of the launched index words. -/
theorem tbl_eq : tbl m 0 = owner (m (((0 : Dev nD).tc : Thread nD τ).loc main_arg1)) := by
  unfold tbl owner wrapped
  show StableHlo.after hostOps0 (fun b => m ((0 : Dev nD), b)) (Proc.devRef .tc main_call0_v11) = _
  simp only [hostOps0, StableHlo.TRef.binary, StableHlo.TRef.nullary, StableHlo.TRef.ternary, StableHlo.TRef.unary, StableHlo.TRef.toBuf, StableHlo.TRef.ofBuf, cast_eq]
  after_results_simp
  rfl

/-- Every point's block of the transposed weights lies inside them, whatever the index words. -/
theorem ok : Ok m := by
  intro i
  refine ⟨fun a => Cert.Proof.weights_fit _ ?_ a, Or.inl rfl⟩
  show (tbl m 0 _).toNat < 8
  rw [tbl_eq]
  exact owner_lt _ _

end Cert.KernelIdeal.Table

end
-- ==== Proof.TableKernel.lean ====
/- The side condition of the launch of the kernel as it is run on words: every point's weight block lies inside the transposed
   weights, whatever the index words. -/
module

public import proofs.«01_k».proof.Proof.TableBound
public import proofs.«01_k».proof.Proof.Gen.Kernel.Frame
public import Idealize.ShloMosaic.Lib.Claim

@[expose] public section

set_option maxRecDepth 16384

noncomputable section

namespace Cert.Kernel.Table

open Idealize.ShloMosaic Idealize.ShloMosaic.TcCoe Idealize.SL.Sem
open Cert.Kernel Cert.Kernel.Gen

variable {F : FTy → Type} [FloatOps F] (m : (ℓ : Loc nD τ sig) → Buf (Elt F) ℓ)

/-- Every word of the prefetched table names an expert. -/
theorem tbl_lt (i : S16.Idx) : (tbl m 0 i : BitVec 32).toNat < 8 := by
  unfold tbl
  show (StableHlo.after hostOps0 (fun b => m ((0 : Dev nD), b)) (Proc.devRef .tc main_call0_v11) i : BitVec 32).toNat < 8
  simp only [hostOps0, StableHlo.TRef.binary, StableHlo.TRef.nullary, StableHlo.TRef.ternary, StableHlo.TRef.unary, StableHlo.TRef.toBuf,
    StableHlo.TRef.ofBuf, cast_eq]
  after_results_simp
  exact Cert.Proof.table_word_lt _ _ _ _ _ i

/-- Every point's block of the transposed weights lies inside them. -/
theorem ok : Ok m := fun _ => ⟨fun a => Cert.Proof.weights_fit _ (tbl_lt m _) a, Or.inl rfl⟩

end Cert.Kernel.Table

end
-- ==== Proof.Frames.lean ====
/- The frames: each program runs to its end, leaves its arguments as they were and every semaphore counter at zero. -/
module

public import proofs.«01_k».proof.Defs
public import proofs.«01_k».proof.Proof.Table
public import proofs.«01_k».proof.Proof.TableKernel
public import proofs.«01_k».proof.Proof.Gen.ReferenceIdeal.Run
public import proofs.«01_k».proof.Proof.Gen.Pre_each_sequence_once
public import Idealize.ShloMosaic.Adequacy

@[expose] public section

noncomputable section

namespace Cert.Proof

open Idealize.ShloMosaic Idealize.SL.Sem

/-- The kernel on words: its frame, from any memory. -/
theorem frame_kernel : Cert.quiescent_Kernel := fun m ρ _ => Cert.Kernel.Gen.frame m ρ (Cert.Kernel.Table.ok m)

/-- The kernel on extended reals: its frame, from any memory. -/
theorem frame_ideal : Cert.quiescent_KernelIdeal := fun m ρ _ => Cert.KernelIdeal.Gen.frame m ρ (Cert.KernelIdeal.Table.ok m)

/-- The reference: its frame, from any memory; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Once.lean ====
/- What the precondition says: the index words name the sixteen sequences one by one. -/
module

public import proofs.«01_k».proof.Pre_each_sequence_once
public import Idealize.ShloMosaic.Lib.ReduceAll
public import Idealize.ShloMosaic.Lib.Pointwise
public import Idealize.ShloMosaic.Lib.StableHlo.Predicate

@[expose] public section

set_option maxRecDepth 16384

noncomputable section

namespace Cert.Proof

open Idealize.ShloMosaic

/-- `σ` lists the index words: row `e` of `idx` names at place `p` the sequence `σ (e, p)`, and every sequence is named once. -/
def Lists (idx : IVec ⟨2, ![8, 2]⟩ 32) (σ : Fin 8 × Fin 2 ≃ Fin 16) : Prop :=
  ∀ e p, idx (ix2 e p) = BitVec.ofNat 32 (σ (e, p)).val

/-- A word that is at least 0 and less than 16, read signed, is a natural below 16. -/
theorem toNat_lt_of_between (w : BitVec 32) (h0 : IntOp.cmpi .sge w 0#32 = 1#1) (h1 : IntOp.cmpi .slt w 16#32 = 1#1) : w.toNat < 16 := by
  simp only [IntOp.cmpi, StableHlo.Predicate.ofBool_eq_one_iff, BitVec.sle, BitVec.slt, decide_eq_true_eq, BitVec.toInt, BitVec.toNat_ofNat] at h0 h1
  omega

variable {F : FTy → Type} [FloatOps F] [Cert.Pre_each_sequence_once.Facts]

/-- The precondition gives the list. -/
theorem exists_lists (x : FVec F ⟨3, ![16, 2048, 1024]⟩ .f32) (idx : IVec ⟨2, ![8, 2]⟩ 32) (W : FVec F ⟨3, ![8, 64, 1024]⟩ .f32)
    (b : FVec F ⟨2, ![8, 64]⟩ .f32) (h : Cert.Pre_each_sequence_once.fn (F := F) x idx W b = fun _ => 1#1) :
    ∃ σ, Lists idx σ := by
  have h0 := congrFun h ix0
  dsimp only [Cert.Pre_each_sequence_once.fn, Cert.Pre_each_sequence_once.fn_part1] at h0
  obtain ⟨hr, hd⟩ := IntOp.andi_eq_one.1 h0
  have range (k : Fin 16) := Host.reduce_andi_all _ _ _ _ _ hr (ix1 k)
  have dist (k l : Fin 16) := Host.reduce_andi_all _ _ _ _ _ hd (ix2 k l)
  clear h h0 hr hd
  pointwise at range dist
  have lt (e : Fin 8) (p : Fin 2) : (idx (ix2 e p)).toNat < 16 := by
    have hk := range ⟨2 * e.val + p.val, by omega⟩
    have he : (⟨(2 * e.val + p.val) / 2, by omega⟩ : Fin 8) = e := Fin.ext (by dsimp only; omega)
    have hp : (⟨(2 * e.val + p.val) % 2, by omega⟩ : Fin 2) = p := Fin.ext (by dsimp only; omega)
    simp only [he, hp] at hk
    exact toNat_lt_of_between _ (IntOp.andi_eq_one.1 hk).1 (IntOp.andi_eq_one.1 hk).2
  let f : Fin 8 × Fin 2 → Fin 16 := fun q => ⟨(idx (ix2 q.1 q.2)).toNat, lt q.1 q.2⟩
  have inj : Function.Injective f := by
    rintro ⟨e, p⟩ ⟨e', p'⟩ hf
    have hw : idx (ix2 e p) = idx (ix2 e' p') := BitVec.eq_of_toNat_eq (Fin.mk.inj hf)
    have hkl := dist ⟨2 * e.val + p.val, by omega⟩ ⟨2 * e'.val + p'.val, by omega⟩
    have he : (⟨(2 * e.val + p.val) / 2, by omega⟩ : Fin 8) = e := Fin.ext (by dsimp only; omega)
    have hp : (⟨(2 * e.val + p.val) % 2, by omega⟩ : Fin 2) = p := Fin.ext (by dsimp only; omega)
    have he' : (⟨(2 * e'.val + p'.val) / 2, by omega⟩ : Fin 8) = e' := Fin.ext (by dsimp only; omega)
    have hp' : (⟨(2 * e'.val + p'.val) % 2, by omega⟩ : Fin 2) = p' := Fin.ext (by dsimp only; omega)
    simp only [he, hp, he', hp', hw] at hkl
    have hkl' : BitVec.ofNat 32 (2 * e.val + p.val) = BitVec.ofNat 32 (2 * e'.val + p'.val) := by
      by_contra hne
      have hb : (BitVec.ofNat 32 (2 * e.val + p.val) == BitVec.ofNat 32 (2 * e'.val + p'.val)) = false := by simpa using hne
      simp [IntOp.ori, IntOp.cmpi, hb] at hkl
    have hn := congrArg BitVec.toNat hkl'
    simp only [BitVec.toNat_ofNat] at hn
    have h1 := e.isLt; have h2 := p.isLt; have h3 := e'.isLt; have h4 := p'.isLt
    exact Prod.ext (Fin.ext (by dsimp only; omega)) (Fin.ext (by dsimp only; omega))
  have bij : Function.Bijective f := (Fintype.bijective_iff_injective_and_card f).2 ⟨inj, by simp⟩
  refine ⟨Equiv.ofBijective f bij, fun e p => BitVec.eq_of_toNat_eq ?_⟩
  have hl := lt e p
  simp only [Equiv.ofBijective_apply, f, BitVec.toNat_ofNat]
  omega

end Cert.Proof

end
-- ==== Proof.Routed.lean ====
/- The layer in one formula, for index words that name every sequence once. -/
module

public import proofs.«01_k».proof.Proof.Once

@[expose] public section

noncomputable section

namespace Cert.Proof

open Idealize.ShloMosaic

/-- The place of column `c` within its group of 64. -/
def lane (c : Fin 512) : Fin 64 := ⟨c.val % 64, Nat.mod_lt _ (by decide)⟩

/-- Expert `e` on token `r` of sequence `s`, output `q`: the product of the token with row `q` of the expert's weights, plus the bias. -/
def expert (x : FVec Ideal ⟨3, ![16, 2048, 1024]⟩ .f32) (W : FVec Ideal ⟨3, ![8, 64, 1024]⟩ .f32) (b : FVec Ideal ⟨2, ![8, 64]⟩ .f32)
    (e : Fin 8) (s : Fin 16) (r : Fin 2048) (q : Fin 64) : EReal :=
  (∑ k : Fin 1024, x (ix3 s r k) * W (ix3 e q k)) + b (ix2 e q)

/-- The layer's output: in sequence `s`, the columns of the group of the expert that names `s` hold that expert's outputs, and every
    other column holds zero. -/
def routed (σ : Fin 8 × Fin 2 ≃ Fin 16) (x : FVec Ideal ⟨3, ![16, 2048, 1024]⟩ .f32) (W : FVec Ideal ⟨3, ![8, 64, 1024]⟩ .f32)
    (b : FVec Ideal ⟨2, ![8, 64]⟩ .f32) (s : Fin 16) (r : Fin 2048) (c : Fin 512) : EReal :=
  if c.val / 64 = (σ.symm s).1.val then expert x W b (σ.symm s).1 s r (lane c) else 0

end Cert.Proof

end
-- ==== Proof.Block.lean ====
/- What one grid point's body computes, entry by entry. -/
module

public import proofs.«01_k».proof.Proof.Gen.KernelIdeal.Frame
public import proofs.«01_k».proof.Proof.Routed
public import Idealize.ShloMosaic.Lib.Pointwise
public import Idealize.ShloMosaic.Lib.StableHlo.Predicate

@[expose] public section

set_option maxRecDepth 16384

noncomputable section

namespace Cert.KernelIdeal.Block

open Idealize.ShloMosaic
open Cert.Proof Cert.KernelIdeal Cert.KernelIdeal.Gen

/-- The body asks of column `c` whether its group, `c / 64`, is the expert number it read. -/
theorem mask_apply (e : Fin 8) (r : Fin 2048) (c : Fin 512) :
    k0_pay3 (F := Ideal) (BitVec.ofNat 32 e.val) (ix2 r c) = if c.val / 64 = e.val then 1#1 else 0#1 := by
  pointwise [k0_pay3]
  clear r
  revert e c
  decide +kernel

/-- The eight copies side by side: column `c` is column `c % 64` of the product plus the bias. -/
theorem tiled_apply (x : FVec Ideal S1x2048x1024 .f32) (w : FVec Ideal S1x1024x64 .f32) (b : FVec Ideal S1x1x64 .f32) (r : Fin 2048) (c : Fin 512) :
    k0_pay2 (F := Ideal) x w b (ix2 r c) = (∑ k : Fin 1024, x (ix3 0 r k) * w (ix3 0 k (lane c))) + b (ix3 0 0 (lane c)) := by
  have key (q : Fin 64) (hq : q.val = c.val % 64) :
      (∑ k : Fin 1024, x (ix3 0 r k) * w (ix3 0 k q)) + b (ix3 0 0 q) = (∑ k : Fin 1024, x (ix3 0 r k) * w (ix3 0 k (lane c))) + b (ix3 0 0 (lane c)) := by
    rw [show q = lane c from Fin.ext hq]
  pointwise [k0_pay2]
  split_ifs <;> exact key _ (by dsimp only; omega)

/-- The block the body stores when it reads expert number `e`: the product plus the bias in the columns of group `e`, zero elsewhere. -/
theorem stored_apply (e : Fin 8) (x : FVec Ideal S1x2048x1024 .f32) (w : FVec Ideal S1x1024x64 .f32) (b : FVec Ideal S1x1x64 .f32)
    (r : Fin 2048) (c : Fin 512) :
    k0_pay1 (k0_pay2 (F := Ideal) x w b) (k0_pay3 (F := Ideal) (BitVec.ofNat 32 e.val)) k0_pay4 (ix3 0 r c)
      = if c.val / 64 = e.val then (∑ k : Fin 1024, x (ix3 0 r k) * w (ix3 0 k (lane c))) + b (ix3 0 0 (lane c)) else 0 := by
  pointwise [k0_pay1, k0_pay4, mask_apply, tiled_apply, Ideal.ofBits_zero_f32]
  split_ifs <;> rfl

/-- So a block stored from the point's own blocks of the arrays is the layer's formula in the point's sequence `s`. -/
theorem stored_routed (σ : Fin 8 × Fin 2 ≃ Fin 16) (s : Fin 16) (X : FVec Ideal S16x2048x1024 .f32) (W : FVec Ideal S8x64x1024 .f32)
    (B : FVec Ideal S8x64 .f32) (x : FVec Ideal S1x2048x1024 .f32) (w : FVec Ideal S1x1024x64 .f32) (b : FVec Ideal S1x1x64 .f32)
    (hx : ∀ r k, x (ix3 0 r k) = X (ix3 s r k)) (hw : ∀ k q, w (ix3 0 k q) = W (ix3 (σ.symm s).1 q k))
    (hb : ∀ q, b (ix3 0 0 q) = B (ix2 (σ.symm s).1 q)) (y : S1x2048x512.Idx) :
    k0_pay1 (k0_pay2 (F := Ideal) x w b) (k0_pay3 (F := Ideal) (BitVec.ofNat 32 (σ.symm s).1.val)) k0_pay4 y = routed σ X W B s (y 1) (y 2) := by
  idx_vars y
  simp only [Fin.eq_zero]
  rw [stored_apply]
  simp only [hx, hw, hb]
  rfl

end Cert.KernelIdeal.Block

end
-- ==== Proof.Owner.lean ====
/- The table of owners where every sequence is named once: a sequence's word is the number of the expert that names it. -/
module

public import proofs.«01_k».proof.Proof.Once
public import proofs.«01_k».proof.Proof.Table
public import Idealize.ShloMosaic.Lib.Routing.OpsSet

@[expose] public section

set_option maxRecDepth 16384

noncomputable section

namespace Cert.KernelIdeal.Table

open Idealize.ShloMosaic
open Cert.Proof Cert.KernelIdeal Cert.KernelIdeal.Gen

/-- A word below 16 is not negative, so it is not counted from the end. -/
theorem not_neg (n : Fin 16) : IntOp.cmpi .slt (BitVec.ofNat 32 n.val) 0#32 = 0#1 := by
  revert n; decide

/-- Entry `2 e + p` of the row of index words is the word at `(e, p)`. -/
theorem wrapped_apply (idx : IVec S8x2 32) (σ : Fin 8 × Fin 2 ≃ Fin 16) (h : Lists idx σ) (k : Fin 16) :
    wrapped idx (ix1 k) = BitVec.ofNat 32 (σ (⟨k.val / 2, by omega⟩, ⟨k.val % 2, by omega⟩)).val := by
  pointwise [wrapped, h _ _]
  rw [not_neg]
  rfl

/-- The row of index words, set up as a column, holds at `k` the sequence of the list's entry `k`. -/
theorem column_toInt (idx : IVec S8x2 32) (σ : Fin 8 × Fin 2 ≃ Fin 16) (h : Lists idx σ) (k : Fin 16) :
    (broadcastInDim S16x1 ![0] bcast_S16_S16x1_0 (wrapped idx) (ix2 k (0 : Fin 1))).toInt
      = ((σ (⟨k.val / 2, by omega⟩, ⟨k.val % 2, by omega⟩)).val : Int) := by
  have e : broadcastInDim S16x1 ![0] bcast_S16_S16x1_0 (wrapped idx) (ix2 k (0 : Fin 1)) = wrapped idx (ix1 k) := by pointwise []
  rw [e, wrapped_apply idx σ h k, StableHlo.Predicate.toInt_ofNat_small _ (by omega)]

/-- Update `k` of the table is `k / 2`, the row of `idx` that entry `k` lies in. -/
theorem update_apply (k : Fin 16) :
    shapeCast S16 (broadcastInDim S8x2 ![0] bcast_S8_S8x2_0 (iotaInDim S8 32 0)) shapeCasts_S8x2_S16 (ix1 k) = BitVec.ofNat 32 (k.val / 2) := by
  pointwise []

/-- The word of a sequence is the number of the expert that names it. -/
theorem owner_apply (idx : IVec S8x2 32) (σ : Fin 8 × Fin 2 ≃ Fin 16) (h : Lists idx σ) (s : Fin 16) :
    owner idx (ix1 s) = BitVec.ofNat 32 (σ.symm s).1.val := by
  have key := Routing.scatter_set_signed scatter_S16_S16x1_S16_n_0_0_1 rfl rfl rfl
    (broadcastInDim S16 ![] bcast_S_S16 (constantI S_ 32 0#32)) (broadcastInDim S16x1 ![0] bcast_S16_S16x1_0 (wrapped idx))
    (shapeCast S16 (broadcastInDim S8x2 ![0] bcast_S8_S8x2_0 (iotaInDim S8 32 0)) shapeCasts_S8x2_S16) s
    (BitVec.ofNat 32 (σ.symm s).1.val) (fun k hk => by
      have hs : σ (⟨k.val / 2, by omega⟩, ⟨k.val % 2, by omega⟩) = s :=
        Fin.ext (Int.ofNat.inj ((column_toInt idx σ h k).symm.trans hk))
      exact (update_apply k).trans (by rw [← hs, Equiv.symm_apply_apply]))
  refine key.1 ⟨⟨2 * (σ.symm s).1.val + (σ.symm s).2.val, by omega⟩, ?_⟩
  refine (column_toInt idx σ h _).trans ?_
  have hq : ((⟨(2 * (σ.symm s).1.val + (σ.symm s).2.val) / 2, by omega⟩, ⟨(2 * (σ.symm s).1.val + (σ.symm s).2.val) % 2, by omega⟩) :
      Fin 8 × Fin 2) = σ.symm s :=
    Prod.ext (Fin.ext (by dsimp only; omega)) (Fin.ext (by dsimp only; omega))
  rw [hq, Equiv.apply_symm_apply]

end Cert.KernelIdeal.Table

end
-- ==== Proof.Reads.lean ====
/- What the launch's arrays hold when the grid starts, and which of their entries a grid point reads. -/
module

public import proofs.«01_k».proof.Proof.Owner
public import Idealize.ShloMosaic.Lib.Routing.Ops
public import Idealize.ShloMosaic.Lib.Pipeline.ValueKit

@[expose] public section

set_option maxRecDepth 16384

noncomputable section

namespace Cert.KernelIdeal.Reads

open Idealize.ShloMosaic Idealize.ShloMosaic.TcCoe Idealize.SL.Sem
open Cert.Proof Cert.KernelIdeal Cert.KernelIdeal.Gen Cert.KernelIdeal.Table

variable (m : (ℓ : Loc nD τ sig) → Buf (Elt Ideal) ℓ)

/-- The sequence a grid point works on. -/
def seq (i : grid0.Coords) : Fin 16 := i 0

/-- The second array is the weights with the last two axes exchanged. -/
theorem weights_eq : V m 0 main_call0_v12 = transpose S8x1024x64 [0, 2, 1] (m (((0 : Dev nD).tc : Thread nD τ).loc main_arg2)) transposes_S8x64x1024_S8x1024x64_0_2_1 := by
  show StableHlo.after hostOps0 (fun b => m ((0 : Dev nD), b)) (Proc.devRef .tc main_call0_v12) = _
  simp only [hostOps0, StableHlo.TRef.binary, StableHlo.TRef.nullary, StableHlo.TRef.ternary, StableHlo.TRef.unary, StableHlo.TRef.toBuf, StableHlo.TRef.ofBuf, cast_eq]
  after_results_simp

/-- The table of owners, a negative word counted from the end. -/
def ownerRow (idx : IVec S8x2 32) : IVec S16 32 :=
  select (cmpi .slt (owner idx) (broadcastInDim S16 ![] bcast_S_S16 (constantI S_ 32 0#32)))
    (addi (owner idx) (broadcastInDim S16 ![] bcast_S_S16 (constantI S_ 32 8#32))) (owner idx)

/-- The row of the biases that each sequence's owner names. -/
def biasOf (idx : IVec S8x2 32) (b : FVec Ideal S8x64 .f32) : FVec Ideal S16x1x64 .f32 :=
  broadcastInDim S16x1x64 ![0, 2] bcast_S16x64_S16x1x64_0_2 (Host.gather gather_S8x64_S16x1_S16x64_1_0_n_n_0_1_164 b
    (broadcastInDim S16x1 ![0] bcast_S16_S16x1_0 (ownerRow idx)))

/-- The third array is that. -/
theorem bias_eq : V m 0 main_call0_v20 = biasOf (m (((0 : Dev nD).tc : Thread nD τ).loc main_arg1)) (m (((0 : Dev nD).tc : Thread nD τ).loc main_arg3)) := by
  unfold biasOf ownerRow owner wrapped
  show StableHlo.after hostOps0 (fun b => m ((0 : Dev nD), b)) (Proc.devRef .tc main_call0_v20) = _
  simp only [hostOps0, StableHlo.TRef.binary, StableHlo.TRef.nullary, StableHlo.TRef.ternary, StableHlo.TRef.unary, StableHlo.TRef.toBuf, StableHlo.TRef.ofBuf, cast_eq]
  after_results_simp
  rfl

/-- The table's offset at a grid point is the point's sequence. -/
theorem off_eq (i : grid0.Coords) : k0_off1 i 0 = (seq i).val := by
  have h : (seq i).val < 16 := (seq i).isLt
  show (BitVec.ofNat 32 (seq i).val).toNat = (seq i).val
  rw [BitVec.toNat_ofNat]; omega

variable (idx : IVec S8x2 32) (σ : Fin 8 × Fin 2 ≃ Fin 16) (h : Lists idx σ) (b : FVec Ideal S8x64 .f32)

include h in
/-- No word of the table is negative, so none is counted from the end. -/
theorem ownerRow_apply (s : Fin 16) : ownerRow idx (ix1 s) = BitVec.ofNat 32 (σ.symm s).1.val := by
  have hs : IntOp.cmpi .slt (BitVec.ofNat 32 (σ.symm s).1.val) 0#32 = 0#1 :=
    (by decide : ∀ e : Fin 8, IntOp.cmpi .slt (BitVec.ofNat 32 e.val) 0#32 = 0#1) _
  pointwise [ownerRow, owner_apply idx σ h]
  rw [hs]
  rfl

/-- The table set up as a column. -/
theorem column_apply (v : IVec S16 32) (s : Fin 16) : broadcastInDim S16x1 ![0] bcast_S16_S16x1_0 v (ix2 s (0 : Fin 1)) = v (ix1 s) := by
  pointwise []

include h in
/-- The bias row of sequence `s` is the row of the expert that names `s`. -/
theorem biasOf_apply (s : Fin 16) (q : Fin 64) : biasOf idx b (ix3 s (0 : Fin 1) q) = b (ix2 (σ.symm s).1 q) := by
  pointwise [biasOf]
  exact Routing.gather_row gather_S8x64_S16x1_S16x64_1_0_n_n_0_1_164 rfl rfl rfl rfl rfl b _ s q (σ.symm s).1
    ((column_apply _ s).trans (ownerRow_apply idx σ h s)) (by decide)

/-- The word of a grid point's sequence, read off the launched table at the offset the body and the index map use. -/
theorem word_eq (hl : Lists (m (((0 : Dev nD).tc : Thread nD τ).loc main_arg1)) σ) (i : grid0.Coords) (x : S16.Idx) (hx : (x 0).val = k0_off1 i 0) :
    tbl m 0 x = BitVec.ofNat 32 (σ.symm (seq i)).1.val := by
  have e : x = ix1 (seq i) := by
    funext a
    have ha : a = 0 := Subsingleton.elim _ _
    subst ha
    exact Fin.ext (hx.trans (off_eq i))
  rw [tbl_eq, e]
  exact owner_apply _ σ hl _

variable (hO : Ok m) (t : Fin (cfgM m hO).N)

/-- A grid coordinate below 16, as a word and back. -/
theorem first_toNat (i : grid0.Coords) : (BitVec.ofNat 32 (i 0).val).toNat = (seq i).val := off_eq i

/-- The second grid coordinate is always 0. -/
theorem second_toNat (i : grid0.Coords) : (BitVec.ofNat 32 (i 1).val).toNat = 0 := by
  have h : (i 1).val < 1 := (i 1).isLt
  rw [BitVec.toNat_ofNat]; omega

/-- Entry `(r, k)` of a point's input block is entry `(r, k)` of the point's sequence. -/
theorem emb0 (r : Fin 2048) (k : Fin 1024) :
    (((cfgM m hO).win 0).blk t).view.emb (ix3 0 r k) = ix3 (seq (grid0.coords t)) r k := by
  funext a
  refine Fin.ext ?_
  match a with
  | ⟨0, _⟩ =>
    show (BitVec.ofNat 32 (grid0.coords t 0).val).toNat * 1 + 1 * 0 = (seq (grid0.coords t)).val
    rw [first_toNat]; omega
  | ⟨1, _⟩ =>
    show (BitVec.ofNat 32 (grid0.coords t 1).val).toNat * 2048 + 1 * r.val = r.val
    rw [second_toNat]; omega
  | ⟨2, _⟩ =>
    show 0 * 1024 + 1 * k.val = k.val
    omega

/-- Entry `(r, c)` of a point's output block is entry `(r, c)` of the point's sequence. -/
theorem emb3 (y : S1x2048x512.Idx) :
    (((cfgM m hO).win 3).blk t).view.emb y = ix3 (seq (grid0.coords t)) (y 1) (y 2) := by
  funext a
  refine Fin.ext ?_
  match a with
  | ⟨0, _⟩ =>
    have hy : (y 0).val < 1 := (y 0).isLt
    show (BitVec.ofNat 32 (grid0.coords t 0).val).toNat * 1 + 1 * (y 0).val = (seq (grid0.coords t)).val
    rw [first_toNat]; omega
  | ⟨1, _⟩ =>
    show (BitVec.ofNat 32 (grid0.coords t 1).val).toNat * 2048 + 1 * (y 1).val = (y 1).val
    rw [second_toNat]; omega
  | ⟨2, _⟩ =>
    show 0 * 512 + 1 * (y 2).val = (y 2).val
    omega

/-- Entry `q` of a point's bias block is entry `q` of the point's row. -/
theorem emb2 (q : Fin 64) :
    (((cfgM m hO).win 2).blk t).view.emb (ix3 0 0 q) = ix3 (seq (grid0.coords t)) 0 q := by
  funext a
  refine Fin.ext ?_
  match a with
  | ⟨0, _⟩ =>
    show (BitVec.ofNat 32 (grid0.coords t 0).val).toNat * 1 + 1 * 0 = (seq (grid0.coords t)).val
    rw [first_toNat]; omega
  | ⟨1, _⟩ =>
    show 0 * 1 + 1 * 0 = 0
    omega
  | ⟨2, _⟩ =>
    show 0 * 64 + 1 * q.val = q.val
    omega

/-- The block of the weights a point reads is that of the expert that names the point's sequence. -/
theorem block1 (hl : Lists (m (((0 : Dev nD).tc : Thread nD τ).loc main_arg1)) σ) (i : grid0.Coords) :
    cc0_transform_1 k0_off1_inb numel1_S1 (tbl m) i 0 = (σ.symm (seq i)).1.val := by
  have e : cc0_transform_1 k0_off1_inb numel1_S1 (tbl m) i 0
      = ((tbl m).at 0 (Rect.unit (s := S16) (k0_off1 i) S1.size (k0_off1_inb i)) numel1_S1).toNat := rfl
  have w : (tbl m).at 0 (Rect.unit (s := S16) (k0_off1 i) S1.size (k0_off1_inb i)) numel1_S1 = BitVec.ofNat 32 (σ.symm (seq i)).1.val := by
    refine word_eq m σ hl i _ ((Rect.emb_apply _ _ _).trans ?_)
    show k0_off1 i 0 + 1 * 0 = k0_off1 i 0
    omega
  rw [e, w, BitVec.toNat_ofNat]; omega

/-- Entry `(k, q)` of a weight block, for any table the launch admits: the block number is the table's. -/
theorem emb1_of (a : (pcfg0 (F := Ideal)).Adm) (t : Fin (cfg0 a).N) (e : Fin 8) (he : cc0_transform_1 k0_off1_inb numel1_S1 a.1 (grid0.coords t) 0 = e.val)
    (k : Fin 1024) (q : Fin 64) : (((cfg0 a).win 1).blk t).view.emb (ix3 0 k q) = ix3 e k q := by
  funext x
  refine Fin.ext ?_
  match x with
  | ⟨0, _⟩ =>
    show cc0_transform_1 k0_off1_inb numel1_S1 a.1 (grid0.coords t) 0 * 1 + 1 * 0 = e.val
    rw [he]; omega
  | ⟨1, _⟩ =>
    show 0 * 1024 + 1 * k.val = k.val
    omega
  | ⟨2, _⟩ =>
    show 0 * 64 + 1 * q.val = q.val
    omega

/-- Entry `(k, q)` of a point's weight block is entry `(k, q)` of the weights of the expert that names the point's sequence. -/
theorem emb1 (hl : Lists (m (((0 : Dev nD).tc : Thread nD τ).loc main_arg1)) σ) (k : Fin 1024) (q : Fin 64) :
    (((cfgM m hO).win 1).blk t).view.emb (ix3 0 k q) = ix3 (σ.symm (seq (grid0.coords t))).1 k q :=
  emb1_of (adm m hO) t _ (block1 m σ hl _) k q

/-- A point's input block. -/
theorem read0 (r : Fin 2048) (k : Fin 1024) :
    iblk m hO 0 0 t (ix3 0 r k) = m (((0 : Dev nD).tc : Thread nD τ).loc main_arg0) (ix3 (seq (grid0.coords t)) r k) := by
  show V m 0 main_arg0 ((((cfgM m hO).win 0).blk t).view.emb (ix3 0 r k)) = _
  rw [emb0, V_main_arg0]

/-- A point's weight block. -/
theorem read1 (hl : Lists (m (((0 : Dev nD).tc : Thread nD τ).loc main_arg1)) σ) (k : Fin 1024) (q : Fin 64) :
    iblk m hO 0 1 t (ix3 0 k q) = m (((0 : Dev nD).tc : Thread nD τ).loc main_arg2) (ix3 (σ.symm (seq (grid0.coords t))).1 q k) := by
  show V m 0 main_call0_v12 ((((cfgM m hO).win 1).blk t).view.emb (ix3 0 k q)) = _
  rw [emb1 m σ hO t hl, weights_eq]
  pointwise []

/-- A point's bias block. -/
theorem read2 (hl : Lists (m (((0 : Dev nD).tc : Thread nD τ).loc main_arg1)) σ) (q : Fin 64) :
    iblk m hO 0 2 t (ix3 0 0 q) = m (((0 : Dev nD).tc : Thread nD τ).loc main_arg3) (ix2 (σ.symm (seq (grid0.coords t))).1 q) := by
  show V m 0 main_call0_v20 ((((cfgM m hO).win 2).blk t).view.emb (ix3 0 0 q)) = _
  rw [emb2, bias_eq]
  exact biasOf_apply _ σ hl _ _ q

end Cert.KernelIdeal.Reads

end
-- ==== Proof.KernelArray.lean ====
/- What the kernel leaves in its output array: the layer's formula. -/
module

public import proofs.«01_k».proof.Proof.Block
public import proofs.«01_k».proof.Proof.Reads
public import Idealize.ShloMosaic.Lib.Pipeline.ValueKit
public import Idealize.ShloMosaic.Lib.Pipeline.Covers

@[expose] public section

set_option maxRecDepth 16384

noncomputable section

namespace Cert.KernelIdeal.Result

open Idealize.ShloMosaic Idealize.ShloMosaic.TcCoe Idealize.SL.Sem
open Cert.Proof Cert.KernelIdeal Cert.KernelIdeal.Gen Cert.KernelIdeal.Reads

variable (m : (ℓ : Loc nD τ sig) → Buf (Elt Ideal) ℓ)

/-- The output blocks cover the output array: block `(s, 0, 0)` is point `(s, 0)`'s. -/
theorem covers (a : (pcfg0 (F := Ideal)).Adm) : ((cfg0 a).win 3).Covers := by
  refine ((cfg0 a).win 3).covers_of_indexMap_surj rfl (fun x => ?_) fun β => ?_
  · match x with
    | ⟨0, _⟩ => exact (by decide : 0 < 1)
    | ⟨1, _⟩ => exact (by decide : 0 < 2048)
    | ⟨2, _⟩ => exact (by decide : 0 < 512)
  · have bound (n z N : Nat) (hN : (n + z - 1) / z = N) (n' z' : Nat) (hn : n' = n) (hz : z' = z) (v : Nat) (hv : v < (n' + z' - 1) / z') : v < N := by
      rw [hn, hz, hN] at hv; exact hv
    have h0 : (β ⟨0, (by decide : 0 < 3)⟩).val < 16 := bound 16 1 16 (by decide) (((cfg0 a).win 3).shape.size ⟨0, (by decide : 0 < 3)⟩)
      (((cfg0 a).win 3).size ⟨0, (by decide : 0 < 3)⟩) rfl rfl _ (β ⟨0, (by decide : 0 < 3)⟩).isLt
    have h1 : (β ⟨1, (by decide : 1 < 3)⟩).val < 1 := bound 2048 2048 1 (by decide) (((cfg0 a).win 3).shape.size ⟨1, (by decide : 1 < 3)⟩)
      (((cfg0 a).win 3).size ⟨1, (by decide : 1 < 3)⟩) rfl rfl _ (β ⟨1, (by decide : 1 < 3)⟩).isLt
    have h2 : (β ⟨2, (by decide : 2 < 3)⟩).val < 1 := bound 512 512 1 (by decide) (((cfg0 a).win 3).shape.size ⟨2, (by decide : 2 < 3)⟩)
      (((cfg0 a).win 3).size ⟨2, (by decide : 2 < 3)⟩) rfl rfl _ (β ⟨2, (by decide : 2 < 3)⟩).isLt
    let i : grid0.Coords := fun | ⟨0, _⟩ => (⟨(β ⟨0, (by decide : 0 < 3)⟩).val, h0⟩ : Fin 16) | ⟨1, _⟩ => (0 : Fin 1)
    refine ⟨i, fun x => ?_⟩
    match x with
    | ⟨0, _⟩ => exact first_toNat i
    | ⟨1, _⟩ => exact (second_toNat i).trans (by omega)
    | ⟨2, _⟩ => exact (by omega : 0 = (β ⟨2, (by decide : 2 < 3)⟩).val)

/-- What a point's body leaves in its output block, from the blocks and the table it is given. -/
theorem out_eq (i : grid0.Coords) (arg3 : Memref sig .tc .vmem S1x2048x1024 .f32) (harg3 : arg3.IsWhole) (arg4 : Memref sig .tc .vmem S1x1024x64 .f32)
    (harg4 : arg4.IsWhole) (arg5 : Memref sig .tc .vmem S1x1x64 .f32) (harg5 : arg5.IsWhole) (arg6 : Memref sig .tc .vmem S1x2048x512 .f32)
    (harg6 : arg6.IsWhole) (x0 : Vec Ideal S1x2048x1024 .f32) (x1 : Vec Ideal S1x1024x64 .f32) (x2 : Vec Ideal S1x1x64 .f32) (xt : IVec S16 32)
    (e : Fin 8) (he : ∀ x : S16.Idx, (x 0).val = k0_off1 i 0 → xt x = BitVec.ofNat 32 e.val) :
    out0_A_3 (F := Ideal) (0 : Dev nD) i arg3 harg3 arg4 harg4 arg5 harg5 arg6 harg6 x0 x1 x2 xt
      = k0_pay1 (k0_pay2 x0 x1 x2) (k0_pay3 (F := Ideal) (BitVec.ofNat 32 e.val)) k0_pay4 := by
  frame_out
  refine congrArg (fun v : BitVec 32 => k0_pay1 (k0_pay2 x0 x1 x2) (k0_pay3 (F := Ideal) v) k0_pay4) (he _ ((Rect.emb_apply _ _ _).trans ?_))
  show k0_off1 i 0 + 1 * 0 = k0_off1 i 0
  omega

/-- The output array after the whole grid, entry by entry. -/
def result (σ : Fin 8 × Fin 2 ≃ Fin 16) : FVec Ideal S16x2048x512 .f32 := fun i =>
  routed σ (m (((0 : Dev nD).tc : Thread nD τ).loc main_arg0)) (m (((0 : Dev nD).tc : Thread nD τ).loc main_arg2))
    (m (((0 : Dev nD).tc : Thread nD τ).loc main_arg3)) (i 0) (i 1) (i 2)

/-- Where the index words list the sequences, the output array after the whole grid is `result`. -/
theorem arr_eq (hO : Ok m) (σ : Fin 8 × Fin 2 ≃ Fin 16) (hl : Lists (m (((0 : Dev nD).tc : Thread nD τ).loc main_arg1)) σ) :
    (dats m hO 0 0).arrAt 3 (cfgM m hO).N = result m σ := by
  refine (dats m hO 0 0).arrAt_eq_of_covers 3 _ (covers (adm m hO)) fun t hf y => ?_
  blk_simp
  rw [after0_3]
  unfold outsAt0
  refine (congrFun (out_eq (grid0.coords t) _ _ _ _ _ _ _ _ (iblk m hO 0 0 t) (iblk m hO 0 1 t) (iblk m hO 0 2 t) (tbl m 0)
    (σ.symm (seq (grid0.coords t))).1 (fun x hx => word_eq m σ hl _ x hx)) y).trans ?_
  refine (Block.stored_routed σ (seq (grid0.coords t)) _ _ _ (iblk m hO 0 0 t) (iblk m hO 0 1 t) (iblk m hO 0 2 t)
    (fun r k => read0 m hO t r k) (fun k q => read1 m σ hO t hl k q) (fun q => read2 m σ hO t hl q) y).trans ?_
  exact (congrArg (result m σ) (emb3 m hO t y)).symm

/-- The kernel's run: where the index words list the sequences it ends with `result` in its result array, its arguments unchanged. -/
theorem run (g : Dev nD → PrngReg) (hO : Ok m) (σ : Fin 8 × Fin 2 ≃ Fin 16) (hl : Lists (m (((0 : Dev nD).tc : Thread nD τ).loc main_arg1)) σ) :
    θ_run (defs (F := Ideal)) (onTc (τ := τ) (main (F := Ideal))) ⟨m, fun _ => 0, g⟩ (fun r => ∀ c : Dev nD,
      r.2.mem ((c.tc : Thread nD τ).loc main_v0) = result m σ
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine θ_run_mono (θ_run_and (run_main m g hO) (unchanged m g hO)) fun r h c => ⟨?_, h.2 c⟩
  obtain rfl : c = 0 := Subsingleton.elim _ _
  exact ((h.1 0).1 3).trans (arr_eq m hO σ hl)

end Cert.KernelIdeal.Result

end
-- ==== Proof.Slab.lean ====
/- One expert's columns in the reference: its two sequences are taken, its product and bias computed, and the results set on zeros. -/
module

public import proofs.«01_k».proof.Proof.Gen.ReferenceIdeal.Run
public import proofs.«01_k».proof.Proof.Routed
public import Idealize.ShloMosaic.Lib.ReduceAll
public import Idealize.ShloMosaic.Lib.Routing.OpsSet
public import Idealize.ShloMosaic.Lib.Routing.OpsPair

@[expose] public section

set_option maxRecDepth 16384

noncomputable section

namespace Cert.ReferenceIdeal.Slab

open Idealize.ShloMosaic
open Cert.Proof Cert.ReferenceIdeal Cert.ReferenceIdeal.Facts₀ Cert.ReferenceIdeal.Facts

/-- The expert's two index words as a column, a negative one counted from the end. -/
def column (v : IVec S2 32) : IVec S2x1 32 :=
  broadcastInDim S2x1 ![0] bcast_S2_S2x1_0 (select (cmpi .slt v (broadcastInDim S2 ![] bcast_S_S2 (constantI S_ 32 0#32)))
    (addi v (broadcastInDim S2 ![] bcast_S_S2 (constantI S_ 32 16#32))) v)

/-- Whether each of the two words names a sequence. -/
def named (v : IVec S2 32) : IVec S2 1 :=
  Host.reduce IntOp.andi (andi (cmpi .sge (column v) (broadcastInDim S2x1 ![] bcast_S_S2x1 (constantI S_ 32 0#32)))
    (cmpi .sle (column v) (broadcastInDim S2x1 ![0, 1] bcast_S1x1_S2x1_0_1 (broadcastInDim S1x1 ![1] bcast_S1_S1x1_1 (constantI S1 32 15#32)))))
    (constantI S_ 1 1#1) reducesTo_S2x1_S2_d1 h_S_

/-- The expert's two sequences, taken from all sixteen. -/
def taken (x : FVec Ideal S16x2048x1024 .f32) (v : IVec S2 32) : FVec Ideal S2x2048x1024 .f32 :=
  select (broadcastInDim S2x2048x1024 ![0] bcast_S2_S2x2048x1024_0 (named v))
    (Host.gather gather_S16x2048x1024_S2x1_S2x2048x1024_12_0_n_n_0_1_120481024 x (column v))
    (broadcastInDim S2x2048x1024 ![] bcast_S_S2x2048x1024 (constant S_ .f32 0x7FC00000#32))

/-- The expert's outputs on its two sequences. -/
def outputs (x : FVec Ideal S16x2048x1024 .f32) (v : IVec S2 32) (w : FVec Ideal S64x1024 .f32) (b : FVec Ideal S64 .f32) : FVec Ideal S2x2048x64 .f32 :=
  addf (Host.dotGeneral dot_S2x2048x1024_S64x1024_S2x2048x64_2_1_01_0_n_n none (taken x v) w)
    (broadcastInDim S2x2048x64 ![0, 1, 2] bcast_S1x1x64_S2x2048x64_0_1_2 (broadcastInDim S1x1x64 ![2] bcast_S64_S1x1x64_2 b))

/-- The expert's columns in all sixteen sequences. -/
def slab (x : FVec Ideal S16x2048x1024 .f32) (v : IVec S2 32) (w : FVec Ideal S64x1024 .f32) (b : FVec Ideal S64 .f32) : FVec Ideal S16x2048x64 .f32 :=
  Host.scatter scatter_S16x2048x64_S2x1_S2x2048x64_12_0_0_1 (fun _ b => b)
    (broadcastInDim S16x2048x64 ![] bcast_S_S16x2048x64 (constant S_ .f32 0x00000000#32)) (column v) (outputs x v w b)

variable (x : FVec Ideal S16x2048x1024 .f32) (v : IVec S2 32) (w : FVec Ideal S64x1024 .f32) (b : FVec Ideal S64 .f32)
variable (n : Fin 2 → Fin 16) (hv : ∀ p, v (ix1 p) = BitVec.ofNat 32 (n p).val)

include hv

/-- The words are not negative, so the column holds them. -/
theorem column_apply (p : Fin 2) : column v (ix2 p (0 : Fin 1)) = BitVec.ofNat 32 (n p).val := by
  have hn : IntOp.cmpi .slt (BitVec.ofNat 32 (n p).val) 0#32 = 0#1 :=
    (by decide : ∀ s : Fin 16, IntOp.cmpi .slt (BitVec.ofNat 32 s.val) 0#32 = 0#1) _
  pointwise [column, hv]
  rw [hn]
  rfl

/-- Both words name a sequence. -/
theorem named_apply (p : Fin 2) : named v (ix1 p) = 1#1 := by
  refine Host.reduce_andi_one _ _ _ _ _ rfl fun i => ?_
  idx_vars i
  obtain rfl : i1 = 0 := Subsingleton.elim _ _
  have hn := (by decide : ∀ s : Fin 16, IntOp.cmpi .sge (BitVec.ofNat 32 s.val) 0#32 = 1#1 ∧ IntOp.cmpi .sle (BitVec.ofNat 32 s.val) 15#32 = 1#1) (n i0)
  pointwise [column_apply v n hv]
  rw [hn.1, hn.2]
  rfl

omit hv in
/-- A gather of two sequences read at place `p`: the sequence that word `p` of the column names. -/
theorem gather_apply (idx : IVec S2x1 32) (p : Fin 2) (r : Fin 2048) (k : Fin 1024) (s : Fin 16) (hs : idx (ix2 p (0 : Fin 1)) = BitVec.ofNat 32 s.val) :
    Host.gather gather_S16x2048x1024_S2x1_S2x2048x1024_12_0_n_n_0_1_120481024 x idx (ix3 p r k) = x (ix3 s r k) := by
  unfold Host.gather
  refine congrArg x (funext fun a => Fin.ext ?_)
  match a with
  | ⟨0, _⟩ =>
    show min (idx (GatherDims.siIdx gather_S16x2048x1024_S2x1_S2x2048x1024_12_0_n_n_0_1_120481024 (ix3 p r k) ⟨0, by decide⟩)).toInt.toNat (16 - 1) + 0 + 0 = s.val
    have hi : GatherDims.siIdx gather_S16x2048x1024_S2x1_S2x2048x1024_12_0_n_n_0_1_120481024 (ix3 p r k) ⟨0, by decide⟩ = ix2 p (0 : Fin 1) := by
      funext c
      match c with
      | ⟨0, _⟩ => rfl
      | ⟨1, _⟩ => rfl
    rw [hi, hs, StableHlo.Predicate.toInt_ofNat_small _ (by omega)]
    omega
  | ⟨1, _⟩ =>
    show 0 + 0 + r.val = r.val
    omega
  | ⟨2, _⟩ =>
    show 0 + 0 + k.val = k.val
    omega

/-- Place `p` of the taken sequences is the sequence word `p` names. -/
theorem taken_apply (p : Fin 2) (r : Fin 2048) (k : Fin 1024) : taken x v (ix3 p r k) = x (ix3 (n p) r k) := by
  pointwise [taken, named_apply v n hv]
  exact gather_apply x _ p r k (n p) (column_apply v n hv p)

/-- Place `p` of the outputs is the expert's product and bias on the sequence word `p` names. -/
theorem outputs_apply (p : Fin 2) (r : Fin 2048) (q : Fin 64) :
    outputs x v w b (ix3 p r q) = (∑ k : Fin 1024, x (ix3 (n p) r k) * w (ix2 q k)) + b (ix1 q) := by
  pointwise [outputs, taken_apply x v n hv]

/-- Where output `(p, r', q')` is set: at `(r', q')` of the sequence word `p` names. -/
theorem lands_iff (p : Fin 2) (r' : Fin 2048) (q' : Fin 64) (s : Fin 16) (r : Fin 2048) (q : Fin 64) :
    ScatterDims.resultIdx? scatter_S16x2048x64_S2x1_S2x2048x64_12_0_0_1 (ix3 p r' q') (column v) = some (ix3 s r q) ↔ n p = s ∧ r' = r ∧ q' = q := by
  rw [Routing.resultIdx?_eq_some]
  have hi : ScatterDims.siIdx scatter_S16x2048x64_S2x1_S2x2048x64_12_0_0_1 (ix3 p r' q') ⟨0, by decide⟩ = ix2 p (0 : Fin 1) := by
    funext c
    match c with
    | ⟨0, _⟩ => rfl
    | ⟨1, _⟩ => rfl
  have h0 : ScatterDims.start scatter_S16x2048x64_S2x1_S2x2048x64_12_0_0_1 (ix3 p r' q') (column v) (0 : Fin 3) = ((n p).val : Int) := by
    show (column v (ScatterDims.siIdx scatter_S16x2048x64_S2x1_S2x2048x64_12_0_0_1 (ix3 p r' q') ⟨0, by decide⟩)).toInt = _
    rw [hi, column_apply v n hv, StableHlo.Predicate.toInt_ofNat_small _ (by omega)]
  constructor
  · intro h
    have e0 := h (0 : Fin 3)
    have e1 := h (1 : Fin 3)
    have e2 := h (2 : Fin 3)
    rw [h0] at e0
    change ((n p).val : Int) + ((0 : Nat) : Int) = (s.val : Int) at e0
    change (0 : Int) + (r'.val : Int) = (r.val : Int) at e1
    change (0 : Int) + (q'.val : Int) = (q.val : Int) at e2
    exact ⟨Fin.ext (by omega), Fin.ext (by omega), Fin.ext (by omega)⟩
  · rintro ⟨rfl, rfl, rfl⟩ a
    match a with
    | ⟨0, _⟩ => rw [show (⟨0, by decide⟩ : Fin 3) = 0 from rfl, h0]; exact Int.add_zero _
    | ⟨1, _⟩ => exact Int.zero_add _
    | ⟨2, _⟩ => exact Int.zero_add _

/-- The expert's columns: in a sequence one of its words names, its product and bias; in any other, zero. -/
theorem slab_apply (s : Fin 16) (r : Fin 2048) (q : Fin 64) :
    slab x v w b (ix3 s r q) = if ∃ p, n p = s then (∑ k : Fin 1024, x (ix3 s r k) * w (ix2 q k)) + b (ix1 q) else 0 := by
  split_ifs with h
  · obtain ⟨p, hp⟩ := h
    refine Routing.scatter_set_hit _ _ _ _ _ _ (fun k hk => ?_) (ix3 p r q) ((lands_iff v n hv p r q s r q).2 ⟨hp, rfl, rfl⟩)
    idx_vars k
    obtain ⟨hs, rfl, rfl⟩ := (lands_iff v n hv _ _ _ s r q).1 hk
    rw [outputs_apply x v w b n hv, hs]
  · refine (Routing.scatter_set_miss _ _ _ _ _ fun k hk => ?_).trans ?_
    · idx_vars k
      exact h ⟨_, ((lands_iff v n hv _ _ _ s r q).1 hk).1⟩
    · pointwise [Ideal.ofBits_zero_f32]

end Cert.ReferenceIdeal.Slab

end
-- ==== Proof.ReferenceArray.lean ====
/- What the reference returns: the layer's formula. -/
module

public import proofs.«01_k».proof.Proof.Slab

@[expose] public section

set_option maxRecDepth 16384

noncomputable section

namespace Cert.ReferenceIdeal.Result

open Idealize.ShloMosaic Idealize.SL.Sem
open Cert.Proof Cert.ReferenceIdeal Cert.ReferenceIdeal.Facts₀ Cert.ReferenceIdeal.Facts Cert.ReferenceIdeal.Value Cert.ReferenceIdeal.Slab

/-- Expert `e`'s columns, where its words, weights and biases are row `e` of the arrays: the layer's formula in the columns of group `e`. -/
theorem slab_routed (σ : Fin 8 × Fin 2 ≃ Fin 16) (x : FVec Ideal S16x2048x1024 .f32) (idx : IVec S8x2 32) (W : FVec Ideal S8x64x1024 .f32)
    (B : FVec Ideal S8x64 .f32) (hl : Lists idx σ) (e : Fin 8) (v : IVec S2 32) (w : FVec Ideal S64x1024 .f32) (b : FVec Ideal S64 .f32)
    (hv : ∀ p, v (ix1 p) = idx (ix2 e p)) (hw : ∀ q k, w (ix2 q k) = W (ix3 e q k)) (hb : ∀ q, b (ix1 q) = B (ix2 e q))
    (s : Fin 16) (r : Fin 2048) (q : Fin 64) (c : Fin 512) (hc : c.val = 64 * e.val + q.val) :
    slab x v w b (ix3 s r q) = routed σ x W B s r c := by
  have he : (∃ p, σ (e, p) = s) ↔ c.val / 64 = (σ.symm s).1.val := by
    have hce : c.val / 64 = e.val := by omega
    rw [hce]
    constructor
    · rintro ⟨p, rfl⟩
      rw [Equiv.symm_apply_apply]
    · intro h
      exact ⟨(σ.symm s).2, by rw [show (e, (σ.symm s).2) = σ.symm s from Prod.ext (Fin.ext h) rfl, Equiv.apply_symm_apply]⟩
  have hq : lane c = q := Fin.ext (by show c.val % 64 = q.val; omega)
  rw [slab_apply x v w b (fun p => σ (e, p)) (fun p => (hv p).trans (hl e p)) s r q, routed, hq]
  simp only [he, hw, hb]
  split_ifs with h
  · have hse : (σ.symm s).1 = e := Fin.ext (by omega)
    rw [hse, expert]
  · rfl

/-- Slab `f` holds what `g` says of the columns of group `e`. -/
def Holds (g : Fin 16 → Fin 2048 → Fin 512 → EReal) (e : Fin 8) (f : FVec Ideal S16x2048x64 .f32) : Prop :=
  ∀ s r q c, c.val = 64 * e.val + q.val → f (ix3 s r q) = g s r c

/-- Eight slabs laid side by side hold `g`, if each holds `g`'s columns of its group. -/
theorem concat_apply (g : Fin 16 → Fin 2048 → Fin 512 → EReal) {f0 f1 f2 f3 f4 f5 f6 f7 : FVec Ideal S16x2048x64 .f32}
    (h0 : Holds g 0 f0) (h1 : Holds g 1 f1) (h2 : Holds g 2 f2) (h3 : Holds g 3 f3) (h4 : Holds g 4 f4) (h5 : Holds g 5 f5)
    (h6 : Holds g 6 f6) (h7 : Holds g 7 f7) (s : Fin 16) (r : Fin 2048) (c : Fin 512) :
    concatenate S16x2048x512 2 [⟨S16x2048x64, f0⟩, ⟨S16x2048x64, f1⟩, ⟨S16x2048x64, f2⟩, ⟨S16x2048x64, f3⟩, ⟨S16x2048x64, f4⟩,
      ⟨S16x2048x64, f5⟩, ⟨S16x2048x64, f6⟩, ⟨S16x2048x64, f7⟩]
      Gen.concatenates_S16x2048x64_S16x2048x64_S16x2048x64_S16x2048x64_S16x2048x64_S16x2048x64_S16x2048x64_S16x2048x64_S16x2048x512_d2
      (ix3 s r c) = g s r c := by
  have hc := c.isLt
  pointwise []
  split_ifs
  all_goals first
    | refine h0 s r _ c ?_
    | refine h1 s r _ c ?_
    | refine h2 s r _ c ?_
    | refine h3 s r _ c ?_
    | refine h4 s r _ c ?_
    | refine h5 s r _ c ?_
    | refine h6 s r _ c ?_
    | refine h7 s r _ c ?_
  all_goals
    simp only [Fin.isValue, Fin.val_zero, Fin.val_one, Fin.val_two, Fin.reduceFinMk, Fin.val_ofNat]
    omega

/-- The slab computed from row `e` of the words, of the weights and of the biases holds the layer's formula. -/
theorem row_holds (σ : Fin 8 × Fin 2 ≃ Fin 16) (x : FVec Ideal S16x2048x1024 .f32) (idx : IVec S8x2 32) (W : FVec Ideal S8x64x1024 .f32)
    (B : FVec Ideal S8x64 .f32) (hl : Lists idx σ) (e : Fin 8) (hi : S8x2.Slices ![e.val, 0] S1x2) (hW : S8x64x1024.Slices ![e.val, 0, 0] S1x64x1024)
    (hB : S8x64.Slices ![e.val, 0] S1x64) :
    Holds (routed σ x W B) e
      (slab x (shapeCast S2 (extractStridedSlice S1x2 ![e.val, 0] idx hi) Gen.shapeCasts_S1x2_S2)
        (shapeCast S64x1024 (extractStridedSlice S1x64x1024 ![e.val, 0, 0] W hW) Gen.shapeCasts_S1x64x1024_S64x1024)
        (shapeCast S64 (extractStridedSlice S1x64 ![e.val, 0] B hB) Gen.shapeCasts_S1x64_S64)) := by
  refine slab_routed σ x idx W B hl e _ _ _ (fun p => ?_) (fun q k => ?_) (fun q => ?_)
  · pointwise []
  · pointwise []
  · pointwise []

variable (V0 : Valuation τ sig (Elt Ideal))

/-- The reference's result, entry by entry. -/
theorem out_apply (σ : Fin 8 × Fin 2 ≃ Fin 16) (hl : Lists (V0 (Proc.devRef .tc main_arg1)) σ) (s : Fin 16) (r : Fin 2048) (c : Fin 512) :
    res_out0 V0 (ix3 s r c) = routed σ (V0 (Proc.devRef .tc main_arg0)) (V0 (Proc.devRef .tc main_arg2)) (V0 (Proc.devRef .tc main_arg3)) s r c := by
  have key := row_holds σ (V0 (Proc.devRef .tc main_arg0)) _ (V0 (Proc.devRef .tc main_arg2)) (V0 (Proc.devRef .tc main_arg3)) hl
  exact concat_apply _ (key 0 Gen.slices_S8x2_S1x2_0_0 Gen.slices_S8x64x1024_S1x64x1024_0_0_0 Gen.slices_S8x64_S1x64_0_0)
    (key 1 Gen.slices_S8x2_S1x2_1_0 Gen.slices_S8x64x1024_S1x64x1024_1_0_0 Gen.slices_S8x64_S1x64_1_0)
    (key 2 Gen.slices_S8x2_S1x2_2_0 Gen.slices_S8x64x1024_S1x64x1024_2_0_0 Gen.slices_S8x64_S1x64_2_0)
    (key 3 Gen.slices_S8x2_S1x2_3_0 Gen.slices_S8x64x1024_S1x64x1024_3_0_0 Gen.slices_S8x64_S1x64_3_0)
    (key 4 Gen.slices_S8x2_S1x2_4_0 Gen.slices_S8x64x1024_S1x64x1024_4_0_0 Gen.slices_S8x64_S1x64_4_0)
    (key 5 Gen.slices_S8x2_S1x2_5_0 Gen.slices_S8x64x1024_S1x64x1024_5_0_0 Gen.slices_S8x64_S1x64_5_0)
    (key 6 Gen.slices_S8x2_S1x2_6_0 Gen.slices_S8x64x1024_S1x64x1024_6_0_0 Gen.slices_S8x64_S1x64_6_0)
    (key 7 Gen.slices_S8x2_S1x2_7_0 Gen.slices_S8x64x1024_S1x64x1024_7_0_0 Gen.slices_S8x64_S1x64_7_0) s r c

/-- The reference's result array, where the index words list the sequences. -/
theorem out_eq (σ : Fin 8 × Fin 2 ≃ Fin 16) (hl : Lists (V0 (Proc.devRef .tc main_arg1)) σ) :
    res_out0 V0 = fun i : S16x2048x512.Idx =>
      routed σ (V0 (Proc.devRef .tc main_arg0)) (V0 (Proc.devRef .tc main_arg2)) (V0 (Proc.devRef .tc main_arg3)) (i 0) (i 1) (i 2) := by
  funext i
  idx_vars i
  exact out_apply V0 σ hl i0 i1 i2

end Cert.ReferenceIdeal.Result

end
-- ==== Proof.Equation.lean ====
/- The equation: where the index words list the sequences, the kernel and the reference end with one array. -/
module

public import proofs.«01_k».proof.Defs
public import proofs.«01_k».proof.Proof.Once
public import proofs.«01_k».proof.Proof.Table
public import proofs.«01_k».proof.Proof.KernelArray
public import proofs.«01_k».proof.Proof.ReferenceArray
public import proofs.«01_k».proof.Proof.Gen.Pre_each_sequence_once
public import Idealize.ShloMosaic.Lib.Claim

@[expose] public section

set_option maxRecDepth 16384

noncomputable section

namespace Cert.Proof

open Idealize.ShloMosaic Idealize.SL.Sem

/-- Equal words are listed alike. -/
theorem lists_of_eq {idx idx' : IVec ⟨2, ![8, 2]⟩ 32} {σ : Fin 8 × Fin 2 ≃ Fin 16} (h : idx' = idx) (hl : Lists idx σ) : Lists idx' σ := h ▸ hl

/-- The layer's formula at equal arrays. -/
theorem routed_congr (σ : Fin 8 × Fin 2 ≃ Fin 16) {x x' : FVec Ideal ⟨3, ![16, 2048, 1024]⟩ .f32} {W W' : FVec Ideal ⟨3, ![8, 64, 1024]⟩ .f32}
    {b b' : FVec Ideal ⟨2, ![8, 64]⟩ .f32} (hx : x' = x) (hW : W' = W) (hb : b' = b) (s : Fin 16) (r : Fin 2048) (c : Fin 512) :
    routed σ x' W' b' s r c = routed σ x W b s r c := by
  rw [hx, hW, hb]

/-- On extended reals, from equal arguments, the kernel and the reference end with equal results and unchanged arguments. -/
theorem algebraic : Cert.algebraic_KernelIdeal_ReferenceIdeal_pre_each_sequence_once := by
  intro m g m' g' hpre hagree
  obtain ⟨σ, hl⟩ := exists_lists _ _ _ _ (hpre 0)
  refine ⟨fun _ => Cert.KernelIdeal.Result.result m σ, Cert.KernelIdeal.Result.run m g (Cert.KernelIdeal.Table.ok m) σ hl,
    θ_run_mono (Cert.ReferenceIdeal.Value.run (F := Ideal) m' g') fun r h c => ⟨(h c).1.trans ?_, (h c).2⟩⟩
  obtain rfl : c = 0 := Subsingleton.elim _ _
  obtain ⟨h0, h1, h2, h3⟩ := hagree 0
  exact (Cert.ReferenceIdeal.Result.out_eq (StableHlo.launchContents m' 0) σ (lists_of_eq h1 hl)).trans (funext fun i => routed_congr σ h0 h2 h3 _ _ _)

end Cert.Proof

end
-- ==== Proof.lean ====
/- The certificate: the kernel, on words and on extended reals, and the reference run to their ends with their arguments
   unchanged and their counters at zero; and, where the index words list each sequence once, the kernel and the reference
   give equal results on extended reals. The stated facts are the instances the generated modules prove. -/
module

public import proofs.«01_k».proof.Defs
public import proofs.«01_k».proof.Proof.Frames
public import proofs.«01_k».proof.Proof.Equation

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Pre_each_sequence_once.Gen.facts,
    frame_kernel, frame_ideal, fun m g _ => frame_ideal m g trivial, frame_reference, fun m g _ => frame_reference m g trivial, trivial, algebraic⟩

end Cert.Proof

end
